-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S128x512 : Shape := ⟨2, ![128, 512]⟩
abbrev S512x2 : Shape := ⟨2, ![512, 2]⟩
abbrev S3x128x512 : Shape := ⟨3, ![3, 128, 512]⟩
abbrev S3 : Shape := ⟨1, ![3]⟩
abbrev S_ : Shape := ⟨0, ![]⟩
abbrev S1x2 : Shape := ⟨2, ![1, 2]⟩
abbrev S2 : Shape := ⟨1, ![2]⟩
abbrev S512x512 : Shape := ⟨2, ![512, 512]⟩
abbrev S128x256 : Shape := ⟨2, ![128, 256]⟩
abbrev S128x2 : Shape := ⟨2, ![128, 2]⟩
abbrev S128x1 : Shape := ⟨2, ![128, 1]⟩
abbrev S1x256x512 : Shape := ⟨3, ![1, 256, 512]⟩
abbrev S256x512 : Shape := ⟨2, ![256, 512]⟩
abbrev S1x128x512 : Shape := ⟨3, ![1, 128, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S2x256x512, .bf16⟩
  | .hbm, ⟨4, _⟩ => ⟨S128x512, .bf16⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S128x512, .bf16⟩
  | .local _ .vmem, ⟨4, _⟩ => ⟨S512x2, .bf16⟩
  | .local _ .vmem, ⟨5, _⟩ => ⟨S3x128x512, .bf16⟩
  | .local _ .vmem, ⟨6, _⟩ => ⟨S3x128x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c2_i32_17
  let c4_i32_18 : BitVec 32 := 4#32
  let v47 : BitVec 32 := Scalar.remsi v46 c4_i32_18
  let c128_i32 : BitVec 32 := 128#32
  let v48 : BitVec 32 := Scalar.muli v47 c128_i32
  let v49 : Index := Scalar.indexCast v48
  let c0_19 : Index := 0#32
  ![v49.toNat, 0]
def k0_off2 (d0 : Dev nD) (c2_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c2_i32_17
  let c4_i32_18 : BitVec 32 := 4#32
  let v47 : BitVec 32 := Scalar.remsi v46 c4_i32_18
  let c128_i32_20 : BitVec 32 := 128#32
  let v52 : BitVec 32 := Scalar.muli v47 c128_i32_20
  let v53 : Index := Scalar.indexCast v52
  let c0_21 : Index := 0#32
  ![v53.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_65 : BitVec 32 := 128#32
  let v124 : BitVec 32 := Scalar.muli v2 c128_i32_65
  let v125 : Index := Scalar.indexCast v124
  let c0_66 : Index := 0#32
  ![v125.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_67 : BitVec 32 := 128#32
  let v128 : BitVec 32 := Scalar.muli v2 c128_i32_67
  let v129 : Index := Scalar.indexCast v128
  let c0_68 : Index := 0#32
  ![v129.toNat, 0]
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_78 : BitVec 32 := 2#32
  let v145 : BitVec 32 := Scalar.addi v2 c2_i32_78
  let c4_i32_79 : BitVec 32 := 4#32
  let v146 : BitVec 32 := Scalar.remsi v145 c4_i32_79
  let c1_i32_84 : BitVec 32 := 1#32
  let v147 : BitVec 32 := Scalar.muli v146 c1_i32_84
  let v148 : BitVec 32 := Scalar.addi c0_i32_85 v147
  v148.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_90 : BitVec 32 := 1#32
  let v157 : BitVec 32 := Scalar.addi v2 c1_i32_90
  let c4_i32_91 : BitVec 32 := 4#32
  let v158 : BitVec 32 := Scalar.remsi v157 c4_i32_91
  let c1_i32_96 : BitVec 32 := 1#32
  let v159 : BitVec 32 := Scalar.muli v158 c1_i32_96
  let v160 : BitVec 32 := Scalar.addi c0_i32_97 v159
  v160.toNat
def k0_dev6 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_102 : BitVec 32 := 3#32
  let v169 : BitVec 32 := Scalar.addi v2 c3_i32_102
  let c4_i32_103 : BitVec 32 := 4#32
  let v170 : BitVec 32 := Scalar.remsi v169 c4_i32_103
  let c1_i32_108 : BitVec 32 := 1#32
  let v171 : BitVec 32 := Scalar.muli v170 c1_i32_108
  let v172 : BitVec 32 := Scalar.addi c0_i32_109 v171
  v172.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S8 : Shape := ⟨1, ![8]⟩
abbrev S1x8 : Shape := ⟨2, ![1, 8]⟩
abbrev S512x8 : Shape := ⟨2, ![512, 8]⟩
abbrev S_ : Shape := ⟨0, ![]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 70
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S8x256x512, .bf16⟩
  | .hbm, ⟨4, _⟩ => ⟨S8, .i32⟩
  | .hbm, ⟨5, _⟩ => ⟨S1x8, .i32⟩
  | .hbm, ⟨6, _⟩ => ⟨S512x8, .i32⟩
  | .hbm, ⟨7, _⟩ => ⟨S512x8, .i32⟩
  | .hbm, ⟨8, _⟩ => ⟨S512x8, .i1⟩
  | .hbm, ⟨9, _⟩ => ⟨S512x8, .i32⟩
  | .hbm, ⟨10, _⟩ => ⟨S_, .i32⟩
  | .hbm, ⟨11, _⟩ => ⟨S_, .i32⟩
  | .hbm, ⟨12, _⟩ => ⟨S512x8, .i32⟩
  | .hbm, ⟨13, _⟩ => ⟨S512x8, .i32⟩
  | .hbm, ⟨14, _⟩ => ⟨S512x8, .i32⟩
  | .hbm, ⟨15, _⟩ => ⟨S_, .i32⟩
  | .hbm, ⟨16, _⟩ => ⟨S512x8, .i32⟩
  | .hbm, ⟨17, _⟩ => ⟨S512x8, .i1⟩
  | .hbm, ⟨18, _⟩ => ⟨S512x8, .i1⟩
  | .hbm, ⟨19, _⟩ => ⟨S_, .f32⟩
  | .hbm, ⟨20, _⟩ => ⟨S512x512, .f32⟩
  | .hbm, ⟨21, _⟩ => ⟨S1x256x512, .bf16⟩
  | .hbm, ⟨22, _⟩ => ⟨S256x512, .bf16⟩
  | .hbm, ⟨23, _⟩ => ⟨S512x512, .f32⟩
  | .hbm, ⟨24, _⟩ => ⟨S512x1, .i1⟩
  | .hbm, ⟨25, _⟩ => ⟨S512x512, .i1⟩
  | .hbm, ⟨26, _⟩ => ⟨S512x512, .f32⟩
  | .hbm, ⟨27, _⟩ => ⟨S1x256x512, .bf16⟩
  | .hbm, ⟨28, _⟩ => ⟨S256x512, .bf16⟩
  | .hbm, ⟨29, _⟩ => ⟨S512x512, .f32⟩
  | .hbm, ⟨30, _⟩ => ⟨S512x1, .i1⟩
  | .hbm, ⟨31, _⟩ => ⟨S512x512, .i1⟩
  | .hbm, ⟨32, _⟩ => ⟨S512x512, .f32⟩
  | .hbm, ⟨33, _⟩ => ⟨S1x256x512, .bf16⟩
  | .hbm, ⟨34, _⟩ => ⟨S256x512, .bf16⟩
  | .hbm, ⟨35, _⟩ => ⟨S512x512, .f32⟩
  | .hbm, ⟨36, _⟩ => ⟨S512x1, .i1⟩
  | .hbm, ⟨37, _⟩ => ⟨S512x512, .i1⟩
  | .hbm, ⟨38, _⟩ => ⟨S512x512, .f32⟩
  | .hbm, ⟨39, _⟩ => ⟨S1x256x512, .bf16⟩
  | .hbm, ⟨40, _⟩ => ⟨S256x512, .bf16⟩
  | .hbm, ⟨41, _⟩ => ⟨S512x512, .f32⟩
  | .hbm, ⟨42, _⟩ => ⟨S512x1, .i1⟩
  | .hbm, ⟨43, _⟩ => ⟨S512x512, .i1⟩
  | .hbm, ⟨44, _⟩ => ⟨S512x512, .f32⟩
  | .hbm, ⟨45, _⟩ => ⟨S1x256x512, .bf16⟩
  | .hbm, ⟨46, _⟩ => ⟨S256x512, .bf16⟩
  | .hbm, ⟨47, _⟩ => ⟨S512x512, .f32⟩
  | .hbm, ⟨48, _⟩ => ⟨S512x1, .i1⟩
  | .hbm, ⟨49, _⟩ => ⟨S512x512, .i1⟩
  | .hbm, ⟨50, _⟩ => ⟨S512x512, .f32⟩
  | .hbm, ⟨51, _⟩ => ⟨S1x256x512, .bf16⟩
  | .hbm, ⟨52, _⟩ => ⟨S256x512, .bf16⟩
  | .hbm, ⟨53, _⟩ => ⟨S512x512, .f32⟩
  | .hbm, ⟨54, _⟩ => ⟨S512x1, .i1⟩
  | .hbm, ⟨55, _⟩ => ⟨S512x512, .i1⟩
  | .hbm, ⟨56, _⟩ => ⟨S512x512, .f32⟩
  | .hbm, ⟨57, _⟩ => ⟨S1x256x512, .bf16⟩
  | .hbm, ⟨58, _⟩ => ⟨S256x512, .bf16⟩
  | .hbm, ⟨59, _⟩ => ⟨S512x512, .f32⟩
  | .hbm, ⟨60, _⟩ => ⟨S512x1, .i1⟩
  | .hbm, ⟨61, _⟩ => ⟨S512x512, .i1⟩
  | .hbm, ⟨62, _⟩ => ⟨S512x512, .f32⟩
  | .hbm, ⟨63, _⟩ => ⟨S1x256x512, .bf16⟩
  | .hbm, ⟨64, _⟩ => ⟨S256x512, .bf16⟩
  | .hbm, ⟨65, _⟩ => ⟨S512x512, .f32⟩
  | .hbm, ⟨66, _⟩ => ⟨S512x1, .i1⟩
  | .hbm, ⟨67, _⟩ => ⟨S512x512, .i1⟩
  | .hbm, ⟨68, _⟩ => ⟨S512x512, .f32⟩
  | .hbm, ⟨69, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call2_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call3_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call4_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call5_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call6_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call7_v0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call8_v0 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Proof.Protocol.lean ====
/-
# The exchange: who signals whom, who sends what where

Four devices each compute, for each of the four row chunks of the output, what their own two experts contribute, and
send the three chunks that are not their own. Everything is indexed by the landing slot `j : Fin 3`: device `d`'s slot
`j` is filled by the device `fwd j d = d + j + 1`, and `d` itself fills slot `j` of `back j d = d - j - 1`, out of its
outgoing slot `out j`. A device announces on the barrier of `fwd j d` that its slot `j` is free, and hands the slot
over with the announcement.

The module states the cells of this exchange, what each holds when it is full (the schedule), what a device owes when
it starts, and the order in which the waits may happen.
-/
module

public import proofs.«01_k».proof.Proof.Gen.KernelIdeal.Skeleton
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and a rounds ledger whose duties are named by landing slots. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The mesh -/

set_option backward.proofsInPublic true in
/-- The device `j + 1` places up: the one that fills slot `j`. -/
def fwd (j : Fin 3) (c : Dev nD) : Dev nD := ⟨(c.val + j.val + 1) % 4, Nat.mod_lt _ (by decide)⟩
set_option backward.proofsInPublic true in
/-- The device `j + 1` places down: the one whose slot `j` this device fills. -/
def back (j : Fin 3) (c : Dev nD) : Dev nD := ⟨(c.val + 3 - j.val) % 4, Nat.mod_lt _ (by decide)⟩

theorem back_fwd (j : Fin 3) (c : Dev nD) : back j (fwd j c) = c := by revert j c; decide
theorem fwd_back (j : Fin 3) (c : Dev nD) : fwd j (back j c) = c := by revert j c; decide

/-- Going up `j + 1` places is a permutation of the devices. -/
def shift (j : Fin 3) : Dev nD ≃ Dev nD := ⟨fwd j, back j, back_fwd j, fwd_back j⟩

theorem dev1_eq (c : Dev nD) : (⟨k0_dev1 c, k0_dev1_lt c⟩ : Dev nD) = fwd 0 c := by revert c; decide
theorem dev2_eq (c : Dev nD) : (⟨k0_dev2 c, k0_dev2_lt c⟩ : Dev nD) = fwd 1 c := by revert c; decide
theorem dev3_eq (c : Dev nD) : (⟨k0_dev3 c, k0_dev3_lt c⟩ : Dev nD) = fwd 2 c := by revert c; decide
theorem dev4_eq (c : Dev nD) : (⟨k0_dev4 c, k0_dev4_lt c⟩ : Dev nD) = back 1 c := by revert c; decide
theorem dev5_eq (c : Dev nD) : (⟨k0_dev5 c, k0_dev5_lt c⟩ : Dev nD) = back 2 c := by revert c; decide
theorem dev6_eq (c : Dev nD) : (⟨k0_dev6 c, k0_dev6_lt c⟩ : Dev nD) = back 0 c := by revert c; decide

/-! ## Buffers and slots -/

abbrev xM : Memref sig .tc .vmem S512x256 .bf16 := Memref.whole cc0_stg0_0
abbrev gM : Memref sig .tc .vmem S512x1 .i32 := Memref.whole cc0_stg1_0
abbrev wM : Memref sig .tc .vmem S2x256x512 .bf16 := Memref.whole cc0_stg2_0
abbrev oM : Memref sig .tc .vmem S128x512 .bf16 := Memref.whole cc0_stg3_0
abbrev keepM : Memref sig .tc .vmem S512x2 .bf16 := Memref.whole cc0_scratch0
abbrev sendM : Memref sig .tc .vmem S3x128x512 .bf16 := Memref.whole cc0_scratch1
abbrev recvM : Memref sig .tc .vmem S3x128x512 .bf16 := Memref.whole cc0_scratch2

theorem slot_inb (k : Fin 3) : ∀ a, (![k.val, 0, 0] : Fin 3 → ℕ) a + S1x128x512.size a ≤ S3x128x512.size a := by
  revert k; decide

/-- Slot `k` of a three-slot buffer, as a rectangle of it. -/
abbrev slotRect (k : Fin 3) : Rect S3x128x512 := Rect.unit (s := S3x128x512) ![k.val, 0, 0] S1x128x512.size (slot_inb k)

/-- Slot `k` of a three-slot buffer, its unit axis dropped: what a transfer reads and writes. -/
def slot (M : Memref sig .tc .vmem S3x128x512 .bf16) (k : Fin 3) : Memref sig .tc .vmem S128x512 .bf16 :=
  (M.slice (slotRect k) (fun _ => rfl)).squeeze S128x512 squeezes_S1x128x512_S128x512

theorem slot_lit0 (M : Memref sig .tc .vmem S3x128x512 .bf16) (h) :
    (M.slice (Rect.unit (s := S3x128x512) ![0, 0, 0] S1x128x512.size inb_S3x128x512_S1x128x512_0_0_0) h).squeeze S128x512 squeezes_S1x128x512_S128x512 = slot M 0 := rfl
theorem slot_lit1 (M : Memref sig .tc .vmem S3x128x512 .bf16) (h) :
    (M.slice (Rect.unit (s := S3x128x512) ![1, 0, 0] S1x128x512.size inb_S3x128x512_S1x128x512_1_0_0) h).squeeze S128x512 squeezes_S1x128x512_S128x512 = slot M 1 := rfl
theorem slot_lit2 (M : Memref sig .tc .vmem S3x128x512 .bf16) (h) :
    (M.slice (Rect.unit (s := S3x128x512) ![2, 0, 0] S1x128x512.size inb_S3x128x512_S1x128x512_2_0_0) h).squeeze S128x512 squeezes_S1x128x512_S128x512 = slot M 2 := rfl

/-! ## Semaphores and cells -/

abbrev barS : Sem sig := (SemArray.scalar (sig.barrier 0 rfl) : Sems sig S_).sem

set_option backward.proofsInPublic true in
/-- The semaphore that counts outgoing slot `k` as read. -/
def sendS (k : Fin 3) : DmaSem sig := ⟨4 + k.val, by have := k.isLt; show 4 + k.val < 10; omega⟩
set_option backward.proofsInPublic true in
/-- The semaphore that counts landing slot `j` as written. -/
def recvS (j : Fin 3) : DmaSem sig := ⟨7 + j.val, by have := j.isLt; show 7 + j.val < 10; omega⟩

theorem sendS_lit0 : ((cc0_scratch3.slice (Rect.unit (s := S3) ![0] S1.size inb_S3_S1_0)).squeeze S_ squeezes_S1_S_).sem = sendS 0 := rfl
theorem sendS_lit1 : ((cc0_scratch3.slice (Rect.unit (s := S3) ![1] S1.size inb_S3_S1_1)).squeeze S_ squeezes_S1_S_).sem = sendS 1 := rfl
theorem sendS_lit2 : ((cc0_scratch3.slice (Rect.unit (s := S3) ![2] S1.size inb_S3_S1_2)).squeeze S_ squeezes_S1_S_).sem = sendS 2 := rfl
theorem recvS_lit0 : ((cc0_scratch4.slice (Rect.unit (s := S3) ![0] S1.size inb_S3_S1_0)).squeeze S_ squeezes_S1_S_).sem = recvS 0 := rfl
theorem recvS_lit1 : ((cc0_scratch4.slice (Rect.unit (s := S3) ![1] S1.size inb_S3_S1_1)).squeeze S_ squeezes_S1_S_).sem = recvS 1 := rfl
theorem recvS_lit2 : ((cc0_scratch4.slice (Rect.unit (s := S3) ![2] S1.size inb_S3_S1_2)).squeeze S_ squeezes_S1_S_).sem = recvS 2 := rfl

abbrev barCell (c : Dev nD) : GSem nD τ sig := ((c : Thread nD τ), .reg barS)
abbrev sendCell (c : Dev nD) (k : Fin 3) : GSem nD τ sig := ((c : Thread nD τ), .dma (sendS k))
abbrev recvCell (c : Dev nD) (j : Fin 3) : GSem nD τ sig := ((c : Thread nD τ), .dma (recvS j))

/-- What a semaphore is for in this exchange. -/
inductive Role where
  | bar
  | snd (k : Fin 3)
  | rcv (j : Fin 3)
  | other

set_option backward.proofsInPublic true in
/-- The role of each semaphore of a core. -/
def role : SemLoc sig → Role
  | .reg s => if s = barS then .bar else .other
  | .dma q =>
    if h : 4 ≤ q.val ∧ q.val < 7 then .snd ⟨q.val - 4, by omega⟩
    else if h : 7 ≤ q.val ∧ q.val < 10 then .rcv ⟨q.val - 7, by omega⟩ else .other

theorem role_bar : role (.reg barS) = .bar := by unfold role; exact if_pos rfl
theorem role_send (k : Fin 3) : role (.dma (sendS k)) = .snd k := by fin_cases k <;> rfl
theorem role_recv (j : Fin 3) : role (.dma (recvS j)) = .rcv j := by fin_cases j <;> rfl

/-- The bytes one transfer credits. -/
abbrev N : ℕ := (slot recvM 0).view.dmaCredit
theorem N_pos : 0 < N := View.dmaCredit_pos _ (by decide)
theorem credit_recv (j : Fin 3) : (slot recvM j).view.dmaCredit = N := rfl
theorem credit_send (k : Fin 3) : (slot sendM k).view.dmaCredit = N := rfl

/-! ## Contents -/

/-- The block window `w` of device `c` stages: its array as launched, read through the window. -/
abbrev xstg (c : Dev nD) : S512x256.Idx → Elt F .bf16 := iblk m c 0 t0_0
abbrev gstg (c : Dev nD) : S512x1.Idx → Elt F .i32 := iblk m c 1 t0_0
abbrev wstg (c : Dev nD) : S2x256x512.Idx → Elt F .bf16 := iblk m c 2 t0_0

/-- The 0/1 marks device `c` writes to its scratch: which tokens its two experts serve. -/
def keepAt (c : Dev nD) : S512x2.Idx → Elt F .bf16 :=
  k0_pay4 (k0_pay1 c (gM.view.readAt (Elt F) (Rect.unit (s := S512x1) ![0, 0] S512x1.size inb_S512x1_S512x1_0_0).toLoadRect (gstg m c)))
    k0_pay2
    (k0_pay3 c (gM.view.readAt (Elt F) (Rect.unit (s := S512x1) ![0, 0] S512x1.size inb_S512x1_S512x1_0_0).toLoadRect (gstg m c)))

theorem xrows_inb (d : Dev nD) : ∀ a, (![128 * d.val, 0] : Fin 2 → ℕ) a + S128x256.size a ≤ S512x256.size a := by
  revert d; decide
theorem krows_inb (d : Dev nD) : ∀ a, (![128 * d.val, 0] : Fin 2 → ℕ) a + S128x2.size a ≤ S512x2.size a := by
  revert d; decide

/-- The rows of chunk `d`, of the tokens and of the marks. -/
abbrev xRows (d : Dev nD) : Rect S512x256 := Rect.unit (s := S512x256) ![128 * d.val, 0] S128x256.size (xrows_inb d)
abbrev kRows (d : Dev nD) : Rect S512x2 := Rect.unit (s := S512x2) ![128 * d.val, 0] S128x2.size (krows_inb d)
/-- Expert 0's and expert 1's weights in the pair a device holds. -/
abbrev wRect0 : Rect S2x256x512 := Rect.unit (s := S2x256x512) ![0, 0, 0] S1x256x512.size inb_S2x256x512_S1x256x512_0_0_0
abbrev wRect1 : Rect S2x256x512 := Rect.unit (s := S2x256x512) ![1, 0, 0] S1x256x512.size inb_S2x256x512_S1x256x512_1_0_0

/-- What device `c`'s two experts contribute to chunk `d`. -/
def part (c d : Dev nD) : S128x512.Idx → Elt F .bf16 :=
  k0_pay10 (xM.view.readAt (Elt F) (xRows d).toLoadRect (xstg m c)) (keepM.view.readAt (Elt F) (kRows d).toLoadRect (keepAt m c))
    (wM.view.readAt (Elt F) wRect0.toLoadRect (wstg m c)) (wM.view.readAt (Elt F) wRect1.toLoadRect (wstg m c))

/-- Device `c`'s chunk of the result: its own contribution and the three that landed. -/
def outAt (c : Dev nD) : S128x512.Idx → Elt F .bf16 :=
  addf (part m c c) (addf (addf (part m (fwd 0 c) c) (part m (fwd 1 c) c)) (part m (fwd 2 c) c))

/-- Slot `k` of a device's three-slot buffer, whatever it holds. -/
def free (M : Memref sig .tc .vmem S3x128x512 .bf16) (c : Dev nD) (k : Fin 3) : sProp 𝕄 :=
  iprop(∃ f, ((slot M k).view.loc (c : Thread nD τ) ↦[(slot M k).view.set]{fullShare} f))

omit [FloatOps F] in
instance free_storable (M : Memref sig .tc .vmem S3x128x512 .bf16) (c : Dev nD) (k : Fin 3) :
    BI.Storable (upEmb : UEmb _ 𝕄) (free (F := F) M c k) := by unfold free; infer_instance

/-! ## The schedule -/

/-- What the barrier of `d` holds from the device `back j d`: that device's free slot `j`, and that its receive cell is
    at its first round. -/
def barPay (d : Dev nD) (j : Fin 3) : sProp 𝕄 := iprop(free recvM (back j d) j ∗ reached ER (recvCell (back j d) j) 0)

/-- What a cell holds, by its role: the barrier three announcements, a send cell the outgoing slot back, a receive cell
    the landing slot at the sender's contribution to this device's chunk. -/
def pay (d : Dev nD) (j : Fin 3) : Role → sProp 𝕄
  | .bar => barPay d j
  | .snd k => free sendM d k
  | .rcv i => owns (d : Thread nD τ) (slot recvM i) fullShare (part m (fwd i d) d)
  | .other => iprop(emp)

/-- Which duties a cell has, by its role. -/
def duty : Role → Finset (Fin 3)
  | .bar => Finset.univ
  | .snd _ => {0}
  | .rcv _ => {0}
  | .other => ∅

/-- How much a duty pays, by the cell's role. -/
def amt : Role → ℕ
  | .bar => 1
  | _ => N

theorem amt_pos (r : Role) : 0 < amt r := by cases r <;> first | exact Nat.one_pos | exact N_pos

/-- The exchange's schedule: one round. -/
def Rd : Rounds.Schedule (GSem nD τ sig) (Fin 3) 𝕄 where
  duties g r := if r = 0 then duty (role g.2) else ∅
  unitless _ := False
  amount g _ _ := amt (role g.2)
  payload g _ j := pay m g.1.1 j (role g.2)
  amount_pos g _ _ _ := amt_pos _

instance Rd_payload_storable (g : GSem nD τ sig) (r : ℕ) (j : Fin 3) :
    BI.Storable (upEmb : UEmb _ 𝕄) ((Rd (F := F) m).payload g r j) := by
  show BI.Storable upEmb (pay m g.1.1 j (role g.2))
  cases role g.2 <;> unfold pay <;> try unfold barPay
  all_goals infer_instance

section Sched
variable (c : Dev nD) (j : Fin 3)

theorem duties_bar : (Rd (F := F) m).duties (barCell c) 0 = Finset.univ := by
  show (if (0 : ℕ) = 0 then duty (role (.reg barS)) else ∅) = _; rw [if_pos rfl, role_bar]; rfl
theorem duties_send : (Rd (F := F) m).duties (sendCell c j) 0 = {0} := by
  show (if (0 : ℕ) = 0 then duty (role (.dma (sendS j))) else ∅) = _; rw [if_pos rfl, role_send]; rfl
theorem duties_recv : (Rd (F := F) m).duties (recvCell c j) 0 = {0} := by
  show (if (0 : ℕ) = 0 then duty (role (.dma (recvS j))) else ∅) = _; rw [if_pos rfl, role_recv]; rfl
theorem duties_later (g : GSem nD τ sig) : ∀ r, 1 ≤ r → (Rd (F := F) m).duties g r = ∅ :=
  fun r hr => if_neg (by omega)

theorem amount_bar (i : Fin 3) : (Rd (F := F) m).amount (barCell c) 0 i = 1 := by
  show amt (role (.reg barS)) = 1; rw [role_bar]; rfl
theorem amount_send (i : Fin 3) : (Rd (F := F) m).amount (sendCell c j) 0 i = N := by
  show amt (role (.dma (sendS j))) = N; rw [role_send]; rfl
theorem amount_recv (i : Fin 3) : (Rd (F := F) m).amount (recvCell c j) 0 i = N := by
  show amt (role (.dma (recvS j))) = N; rw [role_recv]; rfl

theorem expect_bar : (Rd (F := F) m).expect (barCell c) 0 = 3 := by
  unfold Schedule.expect Schedule.amountOf
  rw [duties_bar, Finset.sum_congr rfl fun d _ => amount_bar m c d]; rfl
theorem expect_send : (Rd (F := F) m).expect (sendCell c j) 0 = N := by
  unfold Schedule.expect Schedule.amountOf
  rw [duties_send, Finset.sum_singleton, amount_send]
theorem expect_recv : (Rd (F := F) m).expect (recvCell c j) 0 = N := by
  unfold Schedule.expect Schedule.amountOf
  rw [duties_recv, Finset.sum_singleton, amount_recv]

theorem payload_bar : (Rd (F := F) m).payload (barCell c) 0 j = barPay c j := by
  show pay m c j (role (.reg barS)) = _; rw [role_bar]; rfl
theorem payload_send (i : Fin 3) : (Rd (F := F) m).payload (sendCell c j) 0 i = free sendM c j := by
  show pay m c i (role (.dma (sendS j))) = _; rw [role_send]; rfl
theorem payload_recv (i : Fin 3) :
    (Rd (F := F) m).payload (recvCell c j) 0 i = owns (c : Thread nD τ) (slot recvM j) fullShare (part m (fwd j c) c) := by
  show pay m c i (role (.dma (recvS j))) = _; rw [role_recv]; rfl

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons,
    bigSepL_cons_cons, bigSepL_singleton, payload_bar, payload_bar, payload_bar]
  rfl
theorem rest_send : bigSep ((Rd (F := F) m).duties (sendCell c j) 0 \ ∅) (fun d => (Rd (F := F) m).payload (sendCell c j) 0 d)
    = free sendM c j := by
  rw [Finset.sdiff_empty, duties_send, bigSep_singleton, payload_send]
theorem rest_recv : bigSep ((Rd (F := F) m).duties (recvCell c j) 0 \ ∅) (fun d => (Rd (F := F) m).payload (recvCell c j) 0 d)
    = owns (c : Thread nD τ) (slot recvM j) fullShare (part m (fwd j c) c) := by
  rw [Finset.sdiff_empty, duties_recv, bigSep_singleton, payload_recv]

end Sched

/-! ## What a device owes, and the order of the waits -/

/-- The receive credit device `c`'s transfer into slot `j` of `back j c` owes, and the barrier unit its signal owes. -/
abbrev owesRecv (c : Dev nD) (j : Fin 3) : CellTallies nD τ sig Unit := tallyAt (recvCell (back j c) j) () N
abbrev owesBar (c : Dev nD) (j : Fin 3) : CellTallies nD τ sig Unit := tallyAt (barCell (fwd j c)) () 1

/-- After the three signals a device owes three receive credits, the last summand being the first to be paid. -/
def oweX (c : Dev nD) : CellTallies nD τ sig Unit := owesRecv c 0 + owesRecv c 2 + owesRecv c 1
/-- At launch it owes three barrier units besides. -/
def oweAll (c : Dev nD) : CellTallies nD τ sig Unit := oweX c + owesBar c 2 + owesBar c 1 + owesBar c 0

/-- The labels a cell's level is stated at: one on every TensorCore cell. -/
def L (g : GSem nD τ sig) : Finset Unit := if g.1.2 = .tc then {()} else ∅
/-- Receive cells are waited on last, the barrier before them, everything else first. -/
def rank : Role → ℕ
  | .bar => 1
  | .rcv _ => 2
  | _ => 0
def lv (g : GSem nD τ sig) (_ : Unit) : ℕ := rank (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by show rank (role (.reg barS)) = 1; rw [role_bar]; rfl
theorem lv_recv (c : Dev nD) (j : Fin 3) (u : Unit) : lv (recvCell c j) u = 2 := by
  show rank (role (.dma (recvS j))) = 2; rw [role_recv]; rfl

theorem tally_pos {g' g : GSem nD τ sig} {n : ℕ} {u : Unit} (h : 0 < tallyAt g' () n g u) : g = g' := by
  rw [tallyAt_apply] at h
  by_contra hn
  rw [if_neg (fun e => hn e.1)] at h
  exact Nat.lt_irrefl 0 h

theorem add_pos_cases {A B : CellTallies nD τ sig Unit} {g : GSem nD τ sig} {u : Unit} (h : 0 < (A + B) g u) :
    0 < A g u ∨ 0 < B g u := by
  rw [Pi.add_apply, Finsupp.add_apply] at h; omega

/-- What a device still owes after its signals is at receive cells. -/
theorem oweX_pos {c : Dev nD} {g : GSem nD τ sig} {u : Unit} (h : 0 < oweX c g u) : ∃ j, g = recvCell (back j c) j := by
  unfold oweX at h
  rcases add_pos_cases h with h | h
  · rcases add_pos_cases h with h | h
    · exact ⟨0, tally_pos h⟩
    · exact ⟨2, tally_pos h⟩
  · exact ⟨1, tally_pos h⟩

/-- What it owes at launch is at receive cells and barriers. -/
theorem oweAll_pos {c : Dev nD} {g : GSem nD τ sig} {u : Unit} (h : 0 < oweAll c g u) :
    (∃ j, g = recvCell (back j c) j) ∨ ∃ j, g = barCell (fwd j c) := by
  unfold oweAll at h
  rcases add_pos_cases h with h | h
  · rcases add_pos_cases h with h | h
    · rcases add_pos_cases h with h | h
      · exact .inl (oweX_pos h)
      · exact .inr ⟨2, tally_pos h⟩
    · exact .inr ⟨1, tally_pos h⟩
  · exact .inr ⟨0, tally_pos h⟩

/-- A wait on a semaphore that ranks lowest may happen while everything is owed, or nothing. -/
theorem mayWait_low (c : Dev nD) (sm : SemLoc sig) (hsm : rank (role sm) = 0) (O : CellTallies nD τ sig Unit)
    (hO : O = oweAll c ∨ O = 0) : (levAts L lv : sProp 𝕄) ⊢ MayWait (c : Thread nD τ) sm () O := by
  rcases hO with rfl | rfl
  · refine MayOwe.of_cut (L := L) (lev := lv) 0
      (fun p hp => by rw [Finset.mem_singleton.mp hp, L_tc]; exact Finset.mem_singleton_self _)
      (fun g u hg => by rcases oweAll_pos hg with ⟨j, rfl⟩ | ⟨j, rfl⟩ <;> exact Finset.mem_singleton_self _)
      (fun p hp => by rw [Finset.mem_singleton.mp hp]; exact hsm.le)
      (fun g u hg => by
        rcases oweAll_pos hg with ⟨j, rfl⟩ | ⟨j, rfl⟩
        · rw [lv_recv]; decide
        · rw [lv_bar]; decide)
  · rw [MayWait_zero]; iintro -; iempintro

/-- The barrier wait may happen while the three receive credits are owed. -/
theorem mayWait_bar (c : Dev nD) : (levAts L lv : sProp 𝕄) ⊢ MayWait (c : Thread nD τ) (.reg barS) () (oweX c) :=
  MayOwe.of_cut (L := L) (lev := lv) 1
    (fun p hp => by rw [Finset.mem_singleton.mp hp, L_tc]; exact Finset.mem_singleton_self _)
    (fun g u hg => by obtain ⟨j, rfl⟩ := oweX_pos hg; exact Finset.mem_singleton_self _)
    (fun p hp => by rw [Finset.mem_singleton.mp hp]; exact (lv_bar c ()).le)
    (fun g u hg => by obtain ⟨j, rfl⟩ := oweX_pos hg; rw [lv_recv]; decide)

end Cert.KernelIdeal.Exchange

end
-- ==== Proof.Steps.lean ====
/-
# The steps of the exchange, one rule per kind of step

Each rule speaks of one slot `j`: the signal that hands a landing slot over, the computation that fills an outgoing
slot, the transfer, the two waits, the load of a landed slot. The body's proof applies each of them three times.
-/
module

public import proofs.«01_k».proof.Proof.Protocol

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Reading through literal offsets -/

theorem zero2 : (![0, 0] : Fin 2 → Nat) = fun _ => 0 := funext fun a => by fin_cases a <;> rfl

omit [FloatOps F] in
/-- The elements of slot `k` are those under its rectangle. -/
theorem slot_set (M : Memref sig .tc .vmem S3x128x512 .bf16) (k : Fin 3) :
    (slot M k).view.set = (slotRect k).set.map M.view.emb :=
  (View.set_reshape (v := M.view.slice (slotRect k)) squeezes_S1x128x512_S128x512.numel_eq).trans (View.set_slice M.view (slotRect k))

omit [FloatOps F] in
/-- A slot read as a transfer reads it is the slot loaded, its unit axis dropped. -/
theorem slot_read (M : Memref sig .tc .vmem S3x128x512 .bf16) (k : Fin 3) (f : M.view.ty.Contents (Elt F)) :
    (slot M k).view.read (Elt F) f
      = shapeCast S128x512 (M.view.readAt (Elt F) (slotRect k).toLoadRect f) shapeCasts_S1x128x512_S128x512 := rfl

omit [FloatOps F] in
/-- A slot just stored reads back as what was stored, its unit axis dropped. -/
theorem slot_read_stored (M : Memref sig .tc .vmem S3x128x512 .bf16) (k : Fin 3) (f : M.view.ty.Contents (Elt F))
    (w : S1x128x512.Idx → Elt F .bf16) :
    (slot M k).view.read (Elt F) ((M.access (slotRect k)).write (Elt F) f w Finset.univ)
      = shapeCast S128x512 w shapeCasts_S1x128x512_S128x512 := by
  rw [slot_read]
  exact congrArg (fun z => shapeCast S128x512 z shapeCasts_S1x128x512_S128x512) (View.read_write_univ _ _)

variable (c : Dev nD)

omit [FloatOps F] in
/-- A slot's elements held, spelt through the whole buffer. -/
theorem slot_held (M : Memref sig .tc .vmem S3x128x512 .bf16) (k : Fin 3) (f : Buf (Elt F) (M.view.loc (c : Thread nD τ))) :
    ((slot M k).view.loc (c : Thread nD τ) ↦[(slot M k).view.set]{fullShare} f : sProp 𝕄)
      = (M.view.loc (c : Thread nD τ) ↦[M.view.setOn (slotRect k).toLoadRect.set]{fullShare} f) :=
  congrArg (fun S => (M.view.loc (c : Thread nD τ) ↦[S]{fullShare} f : sProp 𝕄)) (slot_set M k)

/-! ## The signal -/

/-- Signalling the barrier of `fwd j c` hands over this device's landing slot `j`. -/
theorem wp_announce (j : Fin 3) (κ : ℕ) (n : ℕ) (hn : n = 1) (O : CellTallies nD τ sig Unit) (W : Waits sig Unit)
    {α : Type} {Q : α → sProp 𝕄} {k : PUnit → Prog (TpuEff nD τ sig (Elt F) Λ₀ .tc) α} :
    iprop(cellInv ER (Rd m) κ (barCell (fwd j c)) ∗ owes (c : Thread nD τ) (O + owesBar c j) W
        ∗ dutyTok ER (barCell (fwd j c)) 0 j ∗ free recvM c j ∗ reached ER (recvCell c j) 0 ∗ reached ER (barCell (fwd j c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (fwd j c : Thread nD τ) barS n) k) Q) := by
  subst hn
  iintro ⟨#HI, HO, Ht, Hf, #Hr, #Hb⟩ Hk
  iapply (Rounds.wp_signal 𝒱₀ ER (Rd m) (c : Thread nD τ) none (dst := (fwd j c : Thread nD τ)) (κ := κ)
      (d := j) (by rw [duties_bar]; exact Finset.mem_univ _) (amount_bar m (fwd j c) j) () O rfl) $$ [HO Ht Hf]
  · isplitr; · iexact HI
    isplitl [HO]; · iexact HO
    isplitl [Ht]; · iexact Ht
    isplitl [Hf]
    · rw [payload_bar]; unfold barPay; rw [back_fwd]
      isplitl [Hf]; · iexact Hf
      iexact Hr
    iexact Hb
  iintro HO
  iapply Hk; iexact HO

/-! ## Filling an outgoing slot -/

/-- The buffers the computation reads, at their contents. -/
def inputs : sProp 𝕄 :=
  iprop((((c : Thread nD τ).loc cc0_stg0_0) ↦{fullShare} xstg m c) ∗ (((c : Thread nD τ).loc cc0_scratch0) ↦{fullShare} keepAt m c)
    ∗ (((c : Thread nD τ).loc cc0_stg2_0) ↦{fullShare} wstg m c))

/-- The four loads of a chunk's operands: rows of the tokens, rows of the marks, the two experts' weights. -/
theorem wp_operands (d : Dev nD) {offx offk : Fin 2 → ℕ} (hx : offx = ![128 * d.val, 0]) (hk : offk = ![128 * d.val, 0])
    {bx bk} {lx lk l0 l1} {α : Type} {Q : α → sProp 𝕄}
    {k : (S128x256.Idx → Elt F .bf16) → (S128x2.Idx → Elt F .bf16) → (S1x256x512.Idx → Elt F .bf16) → (S1x256x512.Idx → Elt F .bf16)
      → Prog (TpuEff nD τ sig (Elt F) Λ₀ .tc) α} :
    inputs m c
      ⊢ iprop((inputs m c -∗ wp frame (wpE (defs₀ (F := F)) 𝒱₀ (c : Thread nD τ) none) Set.univ
              (k (xM.view.readAt (Elt F) (xRows d).toLoadRect (xstg m c)) (keepM.view.readAt (Elt F) (kRows d).toLoadRect (keepAt m c))
                (wM.view.readAt (Elt F) wRect0.toLoadRect (wstg m c)) (wM.view.readAt (Elt F) wRect1.toLoadRect (wstg m c))) Q)
          -∗ wp frame (wpE (defs₀ (F := F)) 𝒱₀ (c : Thread nD τ) none) Set.univ
              (.op (.load xM (Rect.unit (s := S512x256) offx S128x256.size bx).toLoadRect lx) fun vx =>
                .op (.load keepM (Rect.unit (s := S512x2) offk S128x2.size bk).toLoadRect lk) fun vk =>
                .op (.load wM wRect0.toLoadRect l0) fun v0 =>
                .op (.load wM wRect1.toLoadRect l1) fun v1 => k vx vk v0 v1) Q) := by
  subst hx hk
  unfold inputs
  iintro ⟨Hx, Hm, Hw⟩ Hk
  iapply (wp_load 𝒱₀ (c : Thread nD τ) none Set.univ (m := xM) (Finset.subset_univ _)) $$ Hx; iintro Hx
  iapply (wp_load 𝒱₀ (c : Thread nD τ) none Set.univ (m := keepM) (Finset.subset_univ _)) $$ Hm; iintro Hm
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply Hk
  isplitl [Hx]; · iexact Hx
  isplitl [Hm]; · iexact Hm
  iexact Hw

/-- The load and store of one outgoing slot: it ends holding what was stored. -/
theorem wp_put (k : Fin 3) {off : Fin 3 → ℕ} (ho : off = ![k.val, 0, 0]) {b} {ll} {w : S1x128x512.Idx → Elt F .bf16}
    {st} {hm} (P : S128x512.Idx → Elt F .bf16) (hP : shapeCast S128x512 w shapeCasts_S1x128x512_S128x512 = P)
    {α : Type} {Q : α → sProp 𝕄} {K : PUnit → Prog (TpuEff nD τ sig (Elt F) Λ₀ .tc) α} :
    free sendM c k
      ⊢ iprop((owns (c : Thread nD τ) (slot sendM k) fullShare P
            -∗ wp frame (wpE (defs₀ (F := F)) 𝒱₀ (c : Thread nD τ) none) Set.univ (K ⟨⟩) Q)
          -∗ wp frame (wpE (defs₀ (F := F)) 𝒱₀ (c : Thread nD τ) none) Set.univ
              (.op (.load sendM (Rect.unit (s := S3x128x512) off S1x128x512.size b).toLoadRect ll) fun _ =>
                .op (.store sendM (Rect.unit (s := S3x128x512) off S1x128x512.size b) w Finset.univ st hm) K) Q) := by
  subst ho
  unfold free
  iintro ⟨%f, Hs⟩ Hk
  ihave Hs := (Entails.of_eq (slot_held c sendM k f)) $$ Hs
  iapply (wp_load 𝒱₀ (c : Thread nD τ) none Set.univ (m := sendM) (r := (slotRect k).toLoadRect)
    (S := sendM.view.setOn (slotRect k).toLoadRect.set) (q := fullShare) (f := f) (Finset.Subset.refl _)) $$ Hs; iintro Hs
  iapply (wp_store 𝒱₀ (c : Thread nD τ) none Set.univ (m := sendM) (r := slotRect k) (Mk := Finset.univ)
    (S := sendM.view.setOn (slotRect k).toLoadRect.set) (f := f) (View.set_slice sendM.view (slotRect k)).subset) $$ Hs; iintro Hs
  iapply Hk
  ihave Hs := (Entails.of_eq (slot_held c sendM k _).symm) $$ Hs
  unfold owns
  iexists _
  isplitr
  · ipureintro; exact (slot_read_stored sendM k f w).trans hP
  iexact Hs

/-! ## The transfer -/

/-- The transfer out of slot `k` into slot `j` of `back j c`, which holds its chunk's contribution from `c` afterwards. -/
theorem wp_ship (k j : Fin 3) (n : Dev nD) (hn : n = back j c) (κ₁ κ₂ : ℕ) (O : CellTallies nD τ sig Unit) (W : Waits sig Unit)
    {hsc : (slot recvM j : Memref sig (Dev.tc n : Thread nD τ).2.kind .vmem S128x512 .bf16).view.ref.isScScratch = false}
    {hsrc : (slot sendM k).view.WordExact} {hdst : (slot recvM j).view.WordExact}
    {hsem : DmaTarget.Typed .vmem (.dma (recvS j)) (.remote (Dev.tc n : Thread nD τ) (slot recvM j) (.dma (sendS k)) hsc)}
    {α : Type} {Q : α → sProp 𝕄} {K : PUnit → Prog (TpuEff nD τ sig (Elt F) Λ₀ .tc) α} :
    iprop(cellInv ER (Rd m) κ₁ (sendCell c k) ∗ cellInv ER (Rd m) κ₂ (recvCell (back j c) j)
        ∗ owns (c : Thread nD τ) (slot sendM k) fullShare (part m c (back j c)) ∗ free recvM (back j c) j
        ∗ owes (c : Thread nD τ) (O + owesRecv c j) W
        ∗ dutyTok ER (sendCell c k) 0 0 ∗ reached ER (sendCell c k) 0
        ∗ dutyTok ER (recvCell (back j c) j) 0 0 ∗ reached ER (recvCell (back j c) j) 0)
      ⊢ iprop(((cred (tallyAt (sendCell c k) () N) ∗ owes (c : Thread nD τ) O W)
            -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (slot sendM k) (.remote (Dev.tc n : Thread nD τ) (slot recvM j) (.dma (sendS k)) hsc) (.dma (recvS j)) hsrc hdst hsem) K) Q) := by
  subst hn
  iintro ⟨#H1, #H2, Hs, Hf, HO, Ht1, #Hr1, Ht2, #Hr2⟩
  unfold owns free
  icases Hs with ⟨%fs, %hfs, Hs⟩
  icases Hf with ⟨%fd, Hf⟩
  iapply (Rounds.wp_send_pointsTo 𝒱₀ ER (Rd m) (c : Thread nD τ) none (κ₁ := κ₁) (κ₂ := κ₂)
    (r₁ := 0) (r₂ := 0) (d₁ := 0) (d₂ := 0) (fs := fs) (fd := fd)
    (by rw [duties_send]; exact Finset.mem_singleton_self _) (by rw [duties_recv]; exact Finset.mem_singleton_self _)
    () () N rfl (amount_send m c k 0) (amount_recv m (back j c) j 0) O rfl (W := W)
    (by rw [payload_send]; unfold free; iintro H; iexists fs; iexact H)
    (by rw [payload_recv, fwd_back]; unfold owns; iintro H
        iexists ((slot recvM j).view.write (Elt F) fd ((slot sendM k).view.read (Elt F) fs) Finset.univ)
        isplitr
        · ipureintro; exact (View.read_write_univ _ _).trans hfs
        · iexact H))
  isplitr; · iexact H1
  isplitr; · iexact H2
  isplitl [Hs]; · iexact Hs
  isplitl [Hf]; · iexact Hf
  isplitl [HO]; · iexact HO
  isplitl [Ht1]; · iexact Ht1
  isplitr; · iexact Hr1
  isplitl [Ht2]; · iexact Ht2
  iexact Hr2

/-! ## The waits -/

/-- The barrier wait: the three devices this one sends to have handed their slots over. -/
theorem wp_gather (κ : ℕ) (n : ℕ) (hn : n = 3) (W : Waits sig Unit)
    {α : Type} {Q : α → sProp 𝕄} {K : PUnit → Prog (TpuEff nD τ sig (Elt F) Λ₀ .tc) α} :
    iprop(cellInv ER (Rd m) κ (barCell c) ∗ cred (tallyAt (barCell c) () 3) ∗ owes (c : Thread nD τ) (oweX c) W ∗ levAts L lv
        ∗ atPos ER (barCell c) 0 ∅ 0)
      ⊢ iprop(((owes (c : Thread nD τ) (oweX c) (insert (SemLoc.reg barS, ()) W) ∗ atPos ER (barCell c) (0 + 1) ∅ 0
            ∗ barPay c 0 ∗ barPay c 1 ∗ barPay c 2) -∗ wp frame (wpE (defs₀ (F := F)) 𝒱₀ (c : Thread nD τ) none) Set.univ (K ⟨⟩) Q)
          -∗ wp frame (wpE (defs₀ (F := F)) 𝒱₀ (c : Thread nD τ) none) Set.univ (.op (.semWait barS n) K) Q) := by
  subst hn
  iintro ⟨#HI, Hc, HO, Hlev, Hat⟩ Hk
  iapply (Rounds.wp_wait_rest_token 𝒱₀ ER (Rd m) (c : Thread nD τ) none (κ := κ)
      (wpE_semWait_eq 𝒱₀ (c : Thread nD τ) none Set.univ) (Set.mem_univ _) () (O := oweX c) (W := W) (R := 0) (m := 0) (T := ∅)
      (by rw [expect_bar])) $$ [Hc HO Hlev Hat]
  · isplitr; · iexact HI
    isplitl [Hc]; · iexact Hc
    isplitl [HO]; · iexact HO
    isplitl [Hlev]; · iapply (mayWait_bar c); iexact Hlev
    iexact Hat
  iintro ⟨HO, Hat, -, Hp⟩
  iapply Hk
  isplitl [HO]; · iexact HO
  isplitl [Hat]; · iexact Hat
  iapply (Entails.of_eq (rest_bar m c)); iexact Hp

/-- A wait on a transfer's semaphore, nothing being owed: the payload of the cell. -/
theorem wp_await (q : DmaSem sig) (κ : ℕ) (W : Waits sig Unit) (P : sProp 𝕄)
    (hq : (Rd (F := F) m).expect ((c : Thread nD τ), .dma q) 0 = N)
    (hP : bigSep ((Rd (F := F) m).duties ((c : Thread nD τ), .dma q) 0 \ ∅) (fun d => (Rd (F := F) m).payload ((c : Thread nD τ), .dma q) 0 d) = P)
    {src dst : Memref sig .tc .vmem S128x512 .bf16} {hsrc : src.view.WordExact} {hdst : dst.view.WordExact} (hN : dst.view.dmaCredit = N)
    {α : Type} {Q : α → sProp 𝕄} {K : PUnit → Prog (TpuEff nD τ sig (Elt F) Λ₀ .tc) α} :
    iprop(cellInv ER (Rd m) κ ((c : Thread nD τ), .dma q) ∗ cred (tallyAt ((c : Thread nD τ), SemLoc.dma q) () N) ∗ owes (c : Thread nD τ) 0 W
        ∗ atPos ER ((c : Thread nD τ), .dma q) 0 ∅ 0)
      ⊢ iprop(((owes (c : Thread nD τ) 0 (insert (SemLoc.dma q, ()) W) ∗ atPos ER ((c : Thread nD τ), .dma q) (0 + 1) ∅ 0 ∗ P)
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 q src dst hsrc hdst) K) Q) := by
  iintro ⟨#HI, Hc, HO, Hat⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, hN, hq])) $$ [Hc HO Hat]
  · isplitr; · iexact HI
    isplitl [Hc]; · rw [hN]; iexact Hc
    isplitl [HO]; · iexact HO
    isplitr; · rw [MayWait_zero]; iempintro
    iexact Hat
  iintro ⟨HO, Hat, -, Hp⟩
  iapply Hk
  isplitl [HO]; · iexact HO
  isplitl [Hat]; · iexact Hat
  iapply (Entails.of_eq hP); iexact Hp

/-! ## Loading a landed slot -/

/-- A landed slot loaded, its unit axis dropped, is what the slot holds. -/
theorem wp_take (j : Fin 3) {off : Fin 3 → ℕ} (ho : off = ![j.val, 0, 0]) {b} {ll} (P : S128x512.Idx → Elt F .bf16)
    {α : Type} {Q : α → sProp 𝕄} {K : (S1x128x512.Idx → Elt F .bf16) → Prog (TpuEff nD τ sig (Elt F) Λ₀ .tc) α} :
    owns (c : Thread nD τ) (slot recvM j) fullShare P
      ⊢ iprop((∀ v, ⌜shapeCast S128x512 v shapeCasts_S1x128x512_S128x512 = P⌝ -∗ free recvM c j
            -∗ wp frame (wpE (defs₀ (F := F)) 𝒱₀ (c : Thread nD τ) none) Set.univ (K v) Q)
          -∗ wp frame (wpE (defs₀ (F := F)) 𝒱₀ (c : Thread nD τ) none) Set.univ
              (.op (.load recvM (Rect.unit (s := S3x128x512) off S1x128x512.size b).toLoadRect ll) K) Q) := by
  subst ho
  unfold owns
  iintro ⟨%f, %hf, Hs⟩ Hk
  ihave Hs := (Entails.of_eq (slot_held c recvM j f)) $$ Hs
  iapply (wp_load 𝒱₀ (c : Thread nD τ) none Set.univ (m := recvM) (r := (slotRect j).toLoadRect)
    (S := recvM.view.setOn (slotRect j).toLoadRect.set) (q := fullShare) (f := f) (Finset.Subset.refl _)) $$ Hs; iintro Hs
  ihave Hs := (Entails.of_eq (slot_held c recvM j f).symm) $$ Hs
  iapply Hk $$ %_ %_ [Hs]
  · exact hf
  unfold free; iexists f; iexact Hs

end Cert.KernelIdeal.Exchange

end
-- ==== Proof.Body.lean ====
/-
# The body of one device, from its start to its end

The device announces its landing slots, marks the tokens its experts serve, fills its three outgoing slots, computes
its own chunk's contribution, waits for the three announcements, ships the slots, waits for the three landings, adds
up, and waits until its outgoing slots are free again.
-/
module

public import proofs.«01_k».proof.Proof.Steps
public import Idealize.ShloMosaic.Lib.Ring
public import Idealize.ShloMosaic.Lib.Pipeline.Value

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's cells and what it holds of the exchange -/

/-- The seven cells of a device: its barrier, its send cells, its receive cells. -/
abbrev csem : Fin 7 → SemLoc sig
  | 0 => .reg barS
  | 1 => .dma (sendS 0) | 2 => .dma (sendS 1) | 3 => .dma (sendS 2)
  | 4 => .dma (recvS 0) | 5 => .dma (recvS 1) | 6 => .dma (recvS 2)
abbrev kcell (ci : Dev nD × Fin 7) : GSem nD τ sig := ((ci.1 : Thread nD τ), csem ci.2)

set_option backward.proofsInPublic true in
/-- Send cell `k`'s number among the seven, and receive cell `j`'s. -/
def iS (k : Fin 3) : Fin 7 := ⟨1 + k.val, by omega⟩
set_option backward.proofsInPublic true in
def iR (j : Fin 3) : Fin 7 := ⟨4 + j.val, by omega⟩

theorem kcell_send (c : Dev nD) (k : Fin 3) : kcell (c, iS k) = sendCell c k := by fin_cases k <;> rfl
theorem kcell_recv (c : Dev nD) (j : Fin 3) : kcell (c, iR j) = recvCell c j := by fin_cases j <;> rfl

variable (K : Dev nD × Fin 7 → ℕ)

/-- The cells device `c` meets for slot `j`, as invariants: its own send and receive cells, the barrier it signals, the
    receive cell it pays; and that the three it pays are at their first round, as is its own receive cell. -/
def links (c : Dev nD) (j : Fin 3) : sProp 𝕄 :=
  iprop(cellInv ER (Rd m) (K (c, iS j)) (sendCell c j) ∗ cellInv ER (Rd m) (K (c, iR j)) (recvCell c j)
    ∗ cellInv ER (Rd m) (K (fwd j c, 0)) (barCell (fwd j c)) ∗ cellInv ER (Rd m) (K (back j c, iR j)) (recvCell (back j c) j)
    ∗ reached ER (sendCell c j) 0 ∗ reached ER (recvCell c j) 0 ∗ reached ER (barCell (fwd j c)) 0 ∗ reached ER (recvCell (back j c) j) 0)

instance links_persistent (c : Dev nD) (j : Fin 3) : BI.Persistent (links m K c j) := by unfold links; infer_instance

/-- The positions and tokens device `c` holds for slot `j`: where it is at its own send and receive cells, and the
    right to pay the barrier, the receive cell and the send cell. -/
def rights (c : Dev nD) (j : Fin 3) : sProp 𝕄 :=
  iprop(atPos ER (sendCell c j) 0 ∅ 0 ∗ atPos ER (recvCell c j) 0 ∅ 0
    ∗ dutyTok ER (barCell (fwd j c)) 0 j ∗ dutyTok ER (recvCell (back j c) j) 0 0 ∗ dutyTok ER (sendCell c j) 0 0)

/-- All a device holds of the exchange when it starts. -/
def ghost (c : Dev nD) : sProp 𝕄 :=
  iprop((cellInv ER (Rd m) (K (c, 0)) (barCell c) ∗ links m K c 0 ∗ links m K c 1 ∗ links m K c 2)
    ∗ atPos ER (barCell c) 0 ∅ 0 ∗ rights c 0 ∗ rights c 1 ∗ rights c 2)

/-- With it, the credits of its barrier and receive waits, and the levels of the cells. -/
def start (c : Dev nD) : sProp 𝕄 :=
  iprop((∃ K, ghost m K c) ∗ (cred (tallyAt (barCell c) () 3) ∗ cred (tallyAt (recvCell c 0) () N) ∗ cred (tallyAt (recvCell c 1) () N)
    ∗ cred (tallyAt (recvCell c 2) () N)) ∗ levAts L lv)

/-- The three scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- A device's six transfer semaphores at zero. -/
def quiet (c : Dev nD) : sProp 𝕄 :=
  iprop(semVal (sendCell c 0) 0 ∗ semVal (sendCell c 1) 0 ∗ semVal (sendCell c 2) 0
    ∗ semVal (recvCell c 0) 0 ∗ semVal (recvCell c 1) 0 ∗ semVal (recvCell c 2) 0)

def Φ₀ (c : Dev nD) : sProp 𝕄 := iprop(start m c ∗ scratch c)
def Φ₁ (c : Dev nD) : sProp 𝕄 := iprop(scratch c ∗ quiet c ∗ semVal (barCell c) 0)

/-- The proof data of the launch: the arrays as launched, what each window's buffer holds after the body, what the
    device holds and owes before and after. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => wstg m c
    | ⟨3, _⟩ => outAt m c
  Φ t := match t with
    | ⟨0, _⟩ => Φ₀ m c
    | ⟨_ + 1, _⟩ => Φ₁ c
  q _ := fullShare
  owed t := match t with
    | ⟨0, _⟩ => oweAll c
    | ⟨_ + 1, _⟩ => 0

theorem fetched (w : Fin 4) (hw : w.val < 3) (t : Fin cfg0.N) : (cfg0.win w).fetch t = true := by
  rw [show t = t0_0 from fin_N0 t]; revert w; decide

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## A three-slot buffer and its slots -/

theorem slots_disjoint (k k' : Fin 3) (h : k ≠ k') : Disjoint (slotRect k).set (slotRect k').set :=
  Ring.lead_disjoint (s := S3x128x512) (0 : Fin 3) 1 (fun b : Fin 3 => ![b.val, 0, 0]) S1x128x512.size slot_inb
    (fun b => (Nat.one_mul _).symm) rfl k k' h

theorem slots_cover : Finset.univ.biUnion (fun k : Fin 3 => (slotRect k).set) = Finset.univ :=
  Ring.lead_cover (s := S3x128x512) (0 : Fin 3) 1 (fun b : Fin 3 => ![b.val, 0, 0]) S1x128x512.size slot_inb
    (fun b => (Nat.one_mul _).symm) (fun b a ha => by fin_cases a; exact absurd rfl ha; rfl; rfl) rfl
    (fun a ha => by fin_cases a; exact absurd rfl ha; rfl; rfl) rfl

/-- The elements of a slot of a whole buffer are those of its rectangle. -/
theorem slot_set_send (k : Fin 3) : (slot sendM k).view.set = (slotRect k).set :=
  (View.set_reshape (v := sendM.view.slice (slotRect k)) squeezes_S1x128x512_S128x512.numel_eq).trans (View.set_slice_whole _ _)
theorem slot_set_recv (k : Fin 3) : (slot recvM k).view.set = (slotRect k).set :=
  (View.set_reshape (v := recvM.view.slice (slotRect k)) squeezes_S1x128x512_S128x512.numel_eq).trans (View.set_slice_whole _ _)

section Slots
variable (c : Dev nD)

omit [FloatOps F] in
/-- The outgoing buffer is its three slots, whatever they hold. -/
theorem send_split : iprop(∃ f : Buf (Elt F) ((c : Thread nD τ).loc cc0_scratch1), ((c : Thread nD τ).loc cc0_scratch1) ↦{fullShare} f)
    ⊢ (iprop(free sendM c 0 ∗ free sendM c 1 ∗ free sendM c 2) : sProp 𝕄) :=
  Ring.slots3_split (ℓ := (c : Thread nD τ).loc cc0_scratch1) (fun k => (slotRect k).set) slots_disjoint slots_cover _ _ _
    (fun f => congrArg (fun S => (((c : Thread nD τ).loc cc0_scratch1) ↦[S]{fullShare} f : sProp 𝕄)) (slot_set_send 0))
    (fun f => congrArg (fun S => (((c : Thread nD τ).loc cc0_scratch1) ↦[S]{fullShare} f : sProp 𝕄)) (slot_set_send 1))
    (fun f => congrArg (fun S => (((c : Thread nD τ).loc cc0_scratch1) ↦[S]{fullShare} f : sProp 𝕄)) (slot_set_send 2))
omit [FloatOps F] in
theorem send_join : (iprop(free sendM c 0 ∗ free sendM c 1 ∗ free sendM c 2) : sProp 𝕄)
    ⊢ iprop(∃ f : Buf (Elt F) ((c : Thread nD τ).loc cc0_scratch1), ((c : Thread nD τ).loc cc0_scratch1) ↦{fullShare} f) :=
  Ring.slots3_join (ℓ := (c : Thread nD τ).loc cc0_scratch1) (fun k => (slotRect k).set) slots_disjoint slots_cover _ _ _
    (fun f => congrArg (fun S => (((c : Thread nD τ).loc cc0_scratch1) ↦[S]{fullShare} f : sProp 𝕄)) (slot_set_send 0))
    (fun f => congrArg (fun S => (((c : Thread nD τ).loc cc0_scratch1) ↦[S]{fullShare} f : sProp 𝕄)) (slot_set_send 1))
    (fun f => congrArg (fun S => (((c : Thread nD τ).loc cc0_scratch1) ↦[S]{fullShare} f : sProp 𝕄)) (slot_set_send 2))
omit [FloatOps F] in
/-- And so is the landing buffer. -/
theorem recv_split : iprop(∃ f : Buf (Elt F) ((c : Thread nD τ).loc cc0_scratch2), ((c : Thread nD τ).loc cc0_scratch2) ↦{fullShare} f)
    ⊢ (iprop(free recvM c 0 ∗ free recvM c 1 ∗ free recvM c 2) : sProp 𝕄) :=
  Ring.slots3_split (ℓ := (c : Thread nD τ).loc cc0_scratch2) (fun k => (slotRect k).set) slots_disjoint slots_cover _ _ _
    (fun f => congrArg (fun S => (((c : Thread nD τ).loc cc0_scratch2) ↦[S]{fullShare} f : sProp 𝕄)) (slot_set_recv 0))
    (fun f => congrArg (fun S => (((c : Thread nD τ).loc cc0_scratch2) ↦[S]{fullShare} f : sProp 𝕄)) (slot_set_recv 1))
    (fun f => congrArg (fun S => (((c : Thread nD τ).loc cc0_scratch2) ↦[S]{fullShare} f : sProp 𝕄)) (slot_set_recv 2))
omit [FloatOps F] in
theorem recv_join : (iprop(free recvM c 0 ∗ free recvM c 1 ∗ free recvM c 2) : sProp 𝕄)
    ⊢ iprop(∃ f : Buf (Elt F) ((c : Thread nD τ).loc cc0_scratch2), ((c : Thread nD τ).loc cc0_scratch2) ↦{fullShare} f) :=
  Ring.slots3_join (ℓ := (c : Thread nD τ).loc cc0_scratch2) (fun k => (slotRect k).set) slots_disjoint slots_cover _ _ _
    (fun f => congrArg (fun S => (((c : Thread nD τ).loc cc0_scratch2) ↦[S]{fullShare} f : sProp 𝕄)) (slot_set_recv 0))
    (fun f => congrArg (fun S => (((c : Thread nD τ).loc cc0_scratch2) ↦[S]{fullShare} f : sProp 𝕄)) (slot_set_recv 1))
    (fun f => congrArg (fun S => (((c : Thread nD τ).loc cc0_scratch2) ↦[S]{fullShare} f : sProp 𝕄)) (slot_set_recv 2))

end Slots

/-! ## Stores that fill a whole buffer -/

omit [FloatOps F] in
/-- A store over the whole marks buffer leaves what was stored; -/
theorem keep_stored (f : S512x2.Idx → Elt F .bf16) (w : S512x2.Idx → Elt F .bf16) :
    (keepM.access (Rect.unit (s := S512x2) ![0, 0] S512x2.size inb_S512x2_S512x2_0_0)).write (Elt F) f w Finset.univ = w :=
  Memref.write_access_unit_zero_univ (Elt F) cc0_scratch0 zero2 _ f w
omit [FloatOps F] in
/-- and so does one over the whole output buffer. -/
theorem out_stored (f : S128x512.Idx → Elt F .bf16) (w : S128x512.Idx → Elt F .bf16) :
    (oM.access (Rect.unit (s := S128x512) ![0, 0] S128x512.size inb_S128x512_S128x512_0_0)).write (Elt F) f w Finset.univ = w :=
  Memref.write_access_unit_zero_univ (Elt F) cc0_stg3_0 zero2 _ f w

/-! ## Where each chunk's rows start -/

theorem xoff2 (c : Dev nD) : k0_off1 c 2#32 = ![128 * (back 1 c).val, 0] := by revert c; decide
theorem xoff1 (c : Dev nD) : k0_off1 c 1#32 = ![128 * (back 2 c).val, 0] := by revert c; decide
theorem xoff3 (c : Dev nD) : k0_off1 c 3#32 = ![128 * (back 0 c).val, 0] := by revert c; decide
theorem koff2 (c : Dev nD) : k0_off2 c 2#32 = ![128 * (back 1 c).val, 0] := by revert c; decide
theorem koff1 (c : Dev nD) : k0_off2 c 1#32 = ![128 * (back 2 c).val, 0] := by revert c; decide
theorem koff3 (c : Dev nD) : k0_off2 c 3#32 = ![128 * (back 0 c).val, 0] := by revert c; decide
theorem xoffOwn (c : Dev nD) : k0_off3 c = ![128 * c.val, 0] := by revert c; decide
theorem koffOwn (c : Dev nD) : k0_off4 c = ![128 * c.val, 0] := by revert c; decide

section Flat
variable (vx : S128x256.Idx → Elt F .bf16) (vk : S128x2.Idx → Elt F .bf16) (v0 v1 : S1x256x512.Idx → Elt F .bf16)

/-- What is stored into each outgoing slot is, its unit axis dropped, what the own chunk's sum computes from the same operands. -/
theorem flat0 : shapeCast S128x512 (k0_pay5 vx vk v0 v1) shapeCasts_S1x128x512_S128x512 = k0_pay10 vx vk v0 v1 :=
  shapeCast_shapeCast (k0_pay10 vx vk v0 v1) _ _
theorem flat1 : shapeCast S128x512 (k0_pay6 vx vk v0 v1) shapeCasts_S1x128x512_S128x512 = k0_pay10 vx vk v0 v1 :=
  shapeCast_shapeCast (k0_pay10 vx vk v0 v1) _ _
theorem flat2 : shapeCast S128x512 (k0_pay9 (k0_pay7 vx) vk (k0_pay8 vk) v0 v1) shapeCasts_S1x128x512_S128x512 = k0_pay10 vx vk v0 v1 :=
  shapeCast_shapeCast (k0_pay10 vx vk v0 v1) _ _

end Flat

/-- The sum the device stores, of its own part and the three landed slots. -/
theorem total (c : Dev nD) (v0 v1 v2 : S1x128x512.Idx → Elt F .bf16)
    (h0 : shapeCast S128x512 v0 shapeCasts_S1x128x512_S128x512 = part m (fwd 0 c) c)
    (h1 : shapeCast S128x512 v1 shapeCasts_S1x128x512_S128x512 = part m (fwd 1 c) c)
    (h2 : shapeCast S128x512 v2 shapeCasts_S1x128x512_S128x512 = part m (fwd 2 c) c) :
    k0_pay11 (part m c c) v0 v1 v2 = outAt m c := by
  unfold k0_pay11 outAt
  rw [← h0, ← h1, ← h2]

/-! ## The body -/

section Body
variable (c : Dev nD)

def bodyPre : sProp 𝕄 :=
  iprop((ghost m K c ∗ (cred (tallyAt (barCell c) () 3) ∗ cred (tallyAt (recvCell c 0) () N) ∗ cred (tallyAt (recvCell c 1) () N)
      ∗ cred (tallyAt (recvCell c 2) () N)) ∗ levAts L lv ∗ scratch c)
    ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost : sProp 𝕄 :=
  iprop(Φ₁ c ∗ (dats m 0 c).owesAt () t0_0.succ ∗ stg c cc0_stg0_0 (xstg m c) ∗ stg c cc0_stg1_0 (gstg m c)
    ∗ stg c cc0_stg2_0 (wstg m c) ∗ stg c cc0_stg3_0 (outAt m c))

set_option maxHeartbeats 3200000 in
/-- The body runs from its start to its end, one rule per step. -/
theorem sound_body (Kt : PUnit → sProp 𝕄) :
    iprop(bodyPre m K c ∗ (bodyPost m c -∗ Kt ⟨⟩))
      ⊢ wp frame (wpE (defs₀ (F := F)) 𝒱₀ (c : Thread nD τ) none) Set.univ
          (cc0_body xM (Memref.isWhole_whole _) gM (Memref.isWhole_whole _) wM (Memref.isWhole_whole _) oM (Memref.isWhole_whole _)
            keepM (Memref.isWhole_whole _) sendM (Memref.isWhole_whole _) recvM (Memref.isWhole_whole _) cc0_scratch3 cc0_scratch4) Kt := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, Prog.bind_assoc, wp_deviceId]
  simp only [slot_lit0, slot_lit1, slot_lit2, sendS_lit0, sendS_lit1, sendS_lit2, recvS_lit0, recvS_lit1, recvS_lit2, dev1_eq c, dev2_eq c, dev3_eq c]
  unfold bodyPre ghost rights links scratch
  iintro ⟨⟨⟨⟨⟨#HIB, ⟨#HIs0, #HIr0, #HIb0, #HIp0, #Hs0, #Hr0, #Hb0, #Hp0⟩, ⟨#HIs1, #HIr1, #HIb1, #HIp1, #Hs1, #Hr1, #Hb1, #Hp1⟩,
        ⟨#HIs2, #HIr2, #HIb2, #HIp2, #Hs2, #Hr2, #Hb2, #Hp2⟩⟩, HatB, ⟨HatS0, HatR0, HtB0, HtR0, HtS0⟩, ⟨HatS1, HatR1, HtB1, HtR1, HtS1⟩,
        ⟨HatS2, HatR2, HtB2, HtR2, HtS2⟩⟩, ⟨HcB, HcR0, HcR1, HcR2⟩, #Hlev, ⟨⟨%fk, Hkeep⟩, Hsend, Hrecv⟩⟩,
      Ho, ⟨%d0, %g0, %hg0, Hx⟩, ⟨%d1, %g1, %hg1, Hg⟩, ⟨%d2, %g2, %hg2, Hw⟩, ⟨%d3, %g3, %hg3, Hout⟩⟩, Hk⟩
  have hx : g0 = xstg m c := by rw [hg0]; unfold Dat.before; rw [if_pos (fetched 0 (by decide) t0_0)]; rfl
  have hg : g1 = gstg m c := by rw [hg1]; unfold Dat.before; rw [if_pos (fetched 1 (by decide) t0_0)]; rfl
  have hw : g2 = wstg m c := by rw [hg2]; unfold Dat.before; rw [if_pos (fetched 2 (by decide) t0_0)]; rfl
  subst hx hg hw
  unfold Dat.owesAt Pipeline.owesWithin
  icases Ho with ⟨%W, %hW, HO⟩
  rw [show (dats m 0 c).owed t0_0.castSucc = oweAll c from rfl]
  ihave Hsend := (send_split (F := F) c) $$ Hsend
  icases Hsend with ⟨Hq0, Hq1, Hq2⟩
  ihave Hrecv := (recv_split (F := F) c) $$ Hrecv
  icases Hrecv with ⟨Hl0, Hl1, Hl2⟩
  -- the three announcements
  unfold oweAll
  iapply (wp_announce m c 0 (K (fwd 0 c, 0)) _ rfl) $$ [HO HtB0 Hl0]
  · isplitr; · iexact HIb0
    isplitl [HO]; · iexact HO
    isplitl [HtB0]; · iexact HtB0
    isplitl [Hl0]; · iexact Hl0
    isplitr; · iexact Hr0
    iexact Hb0
  iintro HO
  iapply (wp_announce m c 1 (K (fwd 1 c, 0)) _ rfl) $$ [HO HtB1 Hl1]
  · isplitr; · iexact HIb1
    isplitl [HO]; · iexact HO
    isplitl [HtB1]; · iexact HtB1
    isplitl [Hl1]; · iexact Hl1
    isplitr; · iexact Hr1
    iexact Hb1
  iintro HO
  iapply (wp_announce m c 2 (K (fwd 2 c, 0)) _ rfl) $$ [HO HtB2 Hl2]
  · isplitr; · iexact HIb2
    isplitl [HO]; · iexact HO
    isplitl [HtB2]; · iexact HtB2
    isplitl [Hl2]; · iexact Hl2
    isplitr; · iexact Hr2
    iexact Hb2
  iintro HO
  -- the marks
  iapply (wp_load 𝒱₀ (c : Thread nD τ) none Set.univ (m := gM) (Finset.subset_univ _)) $$ Hg; iintro Hg
  iapply (wp_load 𝒱₀ (c : Thread nD τ) none Set.univ (m := keepM) (Finset.subset_univ _)) $$ Hkeep; iintro Hkeep
  iapply (wp_store 𝒱₀ (c : Thread nD τ) none Set.univ (m := keepM) (r := Rect.unit (s := S512x2) ![0, 0] S512x2.size inb_S512x2_S512x2_0_0) (Mk := Finset.univ) (Finset.subset_univ _)) $$ Hkeep; iintro Hkeep
  rw [keep_stored]
  ihave Hin := (show iprop((((c : Thread nD τ).loc cc0_stg0_0) ↦{fullShare} xstg m c) ∗ (((c : Thread nD τ).loc cc0_scratch0) ↦{fullShare} keepAt m c)
      ∗ (((c : Thread nD τ).loc cc0_stg2_0) ↦{fullShare} wstg m c)) ⊢ (inputs m c : sProp 𝕄) from .rfl) $$ [Hx Hkeep Hw]
  · isplitl [Hx]; · iexact Hx
    isplitl [Hkeep]; · iexact Hkeep
    iexact Hw
  -- the three outgoing slots, and the own chunk
  iapply (wp_operands m c (back 1 c) (xoff2 c) (koff2 c)) $$ Hin; iintro Hin
  iapply (wp_put c 0 rfl (part m c (back 1 c)) (flat0 _ _ _ _)) $$ Hq0; iintro Hq0
  iapply (wp_operands m c (back 2 c) (xoff1 c) (koff1 c)) $$ Hin; iintro Hin
  iapply (wp_put c 1 rfl (part m c (back 2 c)) (flat1 _ _ _ _)) $$ Hq1; iintro Hq1
  iapply (wp_operands m c (back 0 c) (xoff3 c) (koff3 c)) $$ Hin; iintro Hin
  iapply (wp_put c 2 rfl (part m c (back 0 c)) (flat2 _ _ _ _)) $$ Hq2; iintro Hq2
  iapply (wp_operands m c c (xoffOwn c) (koffOwn c)) $$ Hin; iintro Hin
  -- the barrier
  iapply (wp_gather m c (K (c, 0)) _ rfl) $$ [HcB HO HatB]
  · isplitr; · iexact HIB
    isplitl [HcB]; · iexact HcB
    isplitl [HO]; · iexact HO
    isplitr; · iexact Hlev
    iexact HatB
  unfold barPay
  iintro ⟨HO, HatB, ⟨Hl0, -⟩, ⟨Hl1, -⟩, ⟨Hl2, -⟩⟩
  -- the three transfers
  unfold oweX
  iapply (wp_ship m c 0 1 _ (dev4_eq c) (K (c, iS 0)) (K (back 1 c, iR 1))) $$ [Hq0 Hl1 HO HtS0 HtR1]
  · isplitr; · iexact HIs0
    isplitr; · iexact HIp1
    isplitl [Hq0]; · iexact Hq0
    isplitl [Hl1]; · iexact Hl1
    isplitl [HO]; · iexact HO
    isplitl [HtS0]; · iexact HtS0
    isplitr; · iexact Hs0
    isplitl [HtR1]; · iexact HtR1
    iexact Hp1
  iintro ⟨HcS0, HO⟩
  iapply (wp_ship m c 1 2 _ (dev5_eq c) (K (c, iS 1)) (K (back 2 c, iR 2))) $$ [Hq1 Hl2 HO HtS1 HtR2]
  · isplitr; · iexact HIs1
    isplitr; · iexact HIp2
    isplitl [Hq1]; · iexact Hq1
    isplitl [Hl2]; · iexact Hl2
    isplitl [HO]; · iexact HO
    isplitl [HtS1]; · iexact HtS1
    isplitr; · iexact Hs1
    isplitl [HtR2]; · iexact HtR2
    iexact Hp2
  iintro ⟨HcS1, HO⟩
  ihave HO := (Entails.of_eq (congrArg (fun O => (owes (c : Thread nD τ) O _ : sProp 𝕄)) (zero_add (owesRecv c 0)).symm)) $$ HO
  iapply (wp_ship m c 2 0 _ (dev6_eq c) (K (c, iS 2)) (K (back 0 c, iR 0))) $$ [Hq2 Hl0 HO HtS2 HtR0]
  · isplitr; · iexact HIs2
    isplitr; · iexact HIp0
    isplitl [Hq2]; · iexact Hq2
    isplitl [Hl0]; · iexact Hl0
    isplitl [HO]; · iexact HO
    isplitl [HtS2]; · iexact HtS2
    isplitr; · iexact Hs2
    isplitl [HtR0]; · iexact HtR0
    iexact Hp0
  iintro ⟨HcS2, HO⟩
  -- the three landings
  iapply (wp_await m c (recvS 1) (K (c, iR 1)) _ _ (expect_recv m c 1) (rest_recv m c 1) (credit_recv 1)) $$ [HcR1 HO HatR1]
  · isplitr; · iexact HIr1
    isplitl [HcR1]; · iexact HcR1
    isplitl [HO]; · iexact HO
    iexact HatR1
  iintro ⟨HO, HatR1, Hl1⟩
  iapply (wp_await m c (recvS 2) (K (c, iR 2)) _ _ (expect_recv m c 2) (rest_recv m c 2) (credit_recv 2)) $$ [HcR2 HO HatR2]
  · isplitr; · iexact HIr2
    isplitl [HcR2]; · iexact HcR2
    isplitl [HO]; · iexact HO
    iexact HatR2
  iintro ⟨HO, HatR2, Hl2⟩
  iapply (wp_await m c (recvS 0) (K (c, iR 0)) _ _ (expect_recv m c 0) (rest_recv m c 0) (credit_recv 0)) $$ [HcR0 HO HatR0]
  · isplitr; · iexact HIr0
    isplitl [HcR0]; · iexact HcR0
    isplitl [HO]; · iexact HO
    iexact HatR0
  iintro ⟨HO, HatR0, Hl0⟩
  iapply (wp_take c 0 rfl (part m (fwd 0 c) c)) $$ Hl0; iintro %v0 %hv0 Hl0
  iapply (wp_take c 1 rfl (part m (fwd 1 c) c)) $$ Hl1; iintro %v1 %hv1 Hl1
  iapply (wp_take c 2 rfl (part m (fwd 2 c) c)) $$ Hl2; iintro %v2 %hv2 Hl2
  -- the sum
  iapply (wp_load 𝒱₀ (c : Thread nD τ) none Set.univ (m := oM) (Finset.subset_univ _)) $$ Hout; iintro Hout
  iapply (wp_store 𝒱₀ (c : Thread nD τ) none Set.univ (m := oM) (r := Rect.unit (s := S128x512) ![0, 0] S128x512.size inb_S128x512_S128x512_0_0) (Mk := Finset.univ) (Finset.subset_univ _)) $$ Hout; iintro Hout
  rw [out_stored]
  -- the outgoing slots free again
  iapply (wp_await m c (sendS 0) (K (c, iS 0)) _ _ (expect_send m c 0) (rest_send m c 0) (credit_send 0)) $$ [HcS0 HO HatS0]
  · isplitr; · iexact HIs0
    isplitl [HcS0]; · iexact HcS0
    isplitl [HO]; · iexact HO
    iexact HatS0
  iintro ⟨HO, HatS0, Hq0⟩
  iapply (wp_await m c (sendS 1) (K (c, iS 1)) _ _ (expect_send m c 1) (rest_send m c 1) (credit_send 1)) $$ [HcS1 HO HatS1]
  · isplitr; · iexact HIs1
    isplitl [HcS1]; · iexact HcS1
    isplitl [HO]; · iexact HO
    iexact HatS1
  iintro ⟨HO, HatS1, Hq1⟩
  iapply (wp_await m c (sendS 2) (K (c, iS 2)) _ _ (expect_send m c 2) (rest_send m c 2) (credit_send 2)) $$ [HcS2 HO HatS2]
  · isplitr; · iexact HIs2
    isplitl [HcS2]; · iexact HcS2
    isplitl [HO]; · iexact HO
    iexact HatS2
  iintro ⟨HO, HatS2, Hq2⟩
  -- the seven cells close
  imod (Rounds.cell_close ER (Rd m) (Set.mem_univ (K (c, 0))) (fun h => h) (R := 0 + 1) (duties_later m (barCell c))) $$ [HatB] with HzB
  · isplitr; · iexact HIB
    iexact HatB
  imod (Rounds.cell_close ER (Rd m) (Set.mem_univ (K (c, iS 0))) (fun h => h) (R := 0 + 1) (duties_later m (sendCell c 0))) $$ [HatS0] with HzS0
  · isplitr; · iexact HIs0
    iexact HatS0
  imod (Rounds.cell_close ER (Rd m) (Set.mem_univ (K (c, iS 1))) (fun h => h) (R := 0 + 1) (duties_later m (sendCell c 1))) $$ [HatS1] with HzS1
  · isplitr; · iexact HIs1
    iexact HatS1
  imod (Rounds.cell_close ER (Rd m) (Set.mem_univ (K (c, iS 2))) (fun h => h) (R := 0 + 1) (duties_later m (sendCell c 2))) $$ [HatS2] with HzS2
  · isplitr; · iexact HIs2
    iexact HatS2
  imod (Rounds.cell_close ER (Rd m) (Set.mem_univ (K (c, iR 0))) (fun h => h) (R := 0 + 1) (duties_later m (recvCell c 0))) $$ [HatR0] with HzR0
  · isplitr; · iexact HIr0
    iexact HatR0
  imod (Rounds.cell_close ER (Rd m) (Set.mem_univ (K (c, iR 1))) (fun h => h) (R := 0 + 1) (duties_later m (recvCell c 1))) $$ [HatR1] with HzR1
  · isplitr; · iexact HIr1
    iexact HatR1
  imod (Rounds.cell_close ER (Rd m) (Set.mem_univ (K (c, iR 2))) (fun h => h) (R := 0 + 1) (duties_later m (recvCell c 2))) $$ [HatR2] with HzR2
  · isplitr; · iexact HIr2
    iexact HatR2
  rw [wp_ret]; imodintro
  iapply Hk
  unfold inputs bodyPost Φ₁ scratch quiet Dat.owesAt Pipeline.owesWithin
  rw [show (dats m 0 c).owed t0_0.succ = 0 from rfl]
  icases Hin with ⟨Hx, Hkeep, Hw⟩
  ihave Hsend := (send_join (F := F) c) $$ [Hq0 Hq1 Hq2]
  · isplitl [Hq0]; · iexact Hq0
    isplitl [Hq1] <;> iassumption
  ihave Hrecv := (recv_join (F := F) c) $$ [Hl0 Hl1 Hl2]
  · isplitl [Hl0]; · iexact Hl0
    isplitl [Hl1] <;> iassumption
  isplitl [Hkeep Hsend Hrecv HzB HzS0 HzS1 HzS2 HzR0 HzR1 HzR2]
  · isplitl [Hkeep Hsend Hrecv]
    · isplitl [Hkeep]; · iexists _; iexact Hkeep
      isplitl [Hsend] <;> iassumption
    isplitr [HzB]
    · isplitl [HzS0]; · iexact HzS0
      isplitl [HzS1]; · iexact HzS1
      isplitl [HzS2]; · iexact HzS2
      isplitl [HzR0]; · iexact HzR0
      isplitl [HzR1] <;> iassumption
    iexact HzB
  isplitl [HO]
  · iexists (insert (SemLoc.dma (sendS 2), ()) (insert (SemLoc.dma (sendS 1), ()) (insert (SemLoc.dma (sendS 0), ())
      (insert (SemLoc.dma (recvS 0), ()) (insert (SemLoc.dma (recvS 2), ()) (insert (SemLoc.dma (recvS 1), ())
      (insert (SemLoc.reg barS, ()) W)))))))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  isplitl [Hw]
  · iexists _; isplitr; · (ipureintro; rfl)
    iexact Hw
  iexists _
  isplitr; · (ipureintro; exact total m c v0 v1 v2 hv0 hv1 hv2)
  iexact Hout

def bodyPre' : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

/-- The same, as the pipeline asks it of the body at its one grid point. -/
theorem body_obligation : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ (c : Thread nD τ) none) Set.univ
    (cc0_body xM (Memref.isWhole_whole _) gM (Memref.isWhole_whole _) wM (Memref.isWhole_whole _) oM (Memref.isWhole_whole _)
      keepM (Memref.isWhole_whole _) sendM (Memref.isWhole_whole _) recvM (Memref.isWhole_whole _) cc0_scratch3 cc0_scratch4)
    (fun _ => bodyPost m c)
  unfold bodyPre' Φ₀ start
  iintro ⟨⟨⟨⟨%K, Hg⟩, Hc, Hlev⟩, Hscr⟩, Hrest⟩
  iapply (sound_body m K c fun _ => bodyPost m c)
  unfold bodyPre
  isplitr []
  · isplitl [Hg Hc Hlev Hscr]
    · isplitl [Hg]; · iexact Hg
      isplitl [Hc]; · iexact Hc
      isplitl [Hlev] <;> iassumption
    iexact Hrest
  · iintro H; iexact H

end Body

end Cert.KernelIdeal.Exchange

end
-- ==== Proof.Launch.lean ====
/-
# The launch of the four devices, and the run

Each device gets the positions at its own seven cells and the rights to pay the cells of its neighbours; the cells
become invariants all devices know; the credits of the waits are what the devices owe one another. With the body's
proof this gives the run of the whole program: it terminates, each device's result is its chunk, every argument is as
it was, and every semaphore is back at zero.
-/
module

public import proofs.«01_k».proof.Proof.Body
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens, listed -/

/-- The kernel's own transfer semaphores. -/
abbrev osem : Fin 6 → SemLoc sig
  | 0 => .dma (sendS 0) | 1 => .dma (sendS 1) | 2 => .dma (sendS 2)
  | 3 => .dma (recvS 0) | 4 => .dma (recvS 1) | 5 => .dma (recvS 2)

theorem ownSemFacts : Pipeline.OwnSemFacts cfg0.spec osem := by decide

theorem csem_injective : Function.Injective csem := by decide

theorem kcell_injective : Function.Injective (kcell : Dev nD × Fin 7 → GSem nD τ sig) := fun p p' h => by
  have h1 : p.1 = p'.1 := congrArg (fun g : GSem nD τ sig => g.1.1) h
  exact Prod.ext h1 (csem_injective (congrArg Prod.snd h))

/-- All cells of the exchange. -/
def cells : Finset (GSem nD τ sig) := Finset.univ.map ⟨kcell, kcell_injective⟩

/-- The three duties of slot `j` at device `c`'s own cells: its barrier's, its receive cell's, its send cell's. -/
abbrev tokOf (p : (Dev nD × Fin 3) × Fin 3) : GSem nD τ sig × ℕ × Fin 3 := match p.2 with
  | 0 => (barCell p.1.1, 0, p.1.2)
  | 1 => (recvCell p.1.1 p.1.2, 0, 0)
  | 2 => (sendCell p.1.1 p.1.2, 0, 0)

theorem tokOf_injective : Function.Injective tokOf := by
  rintro ⟨⟨c, j⟩, i⟩ ⟨⟨c', j'⟩, i'⟩ h
  have h1 : c = c' := by
    have := congrArg (fun x : GSem nD τ sig × ℕ × Fin 3 => x.1.1.1) h
    fin_cases i <;> fin_cases i' <;> exact this
  subst h1
  have h2 : ((tokOf ((c, j), i)).1.2, (tokOf ((c, j), i)).2.2) = ((tokOf ((c, j'), i')).1.2, (tokOf ((c, j'), i')).2.2) :=
    congrArg (fun x : GSem nD τ sig × ℕ × Fin 3 => (x.1.2, x.2.2)) h
  have h3 : (j, i) = (j', i') := by
    clear h
    revert h2
    fin_cases j <;> fin_cases j' <;> fin_cases i <;> fin_cases i' <;> intro h2 <;>
      first
        | rfl
        | (exfalso; revert h2; decide +revert)
  obtain ⟨rfl, rfl⟩ := Prod.mk.inj h3
  rfl

/-- All duty tokens of the exchange. -/
def tokens : Finset (GSem nD τ sig × ℕ × Fin 3) := Finset.univ.map ⟨tokOf, tokOf_injective⟩

def u₀ : UU := (initOf (Pipeline.cells cfgs cellOf_inj) (Pipeline.launchToks cfgs cellOf_inj), initOf cells tokens)

/-- The tokens of slot `j` at device `c`'s own cells, and those device `c` will pay with. -/
def minted (p : Dev nD × Fin 3) : sProp 𝕄 :=
  iprop(dutyTok ER (barCell p.1) 0 p.2 ∗ dutyTok ER (recvCell p.1 p.2) 0 0 ∗ dutyTok ER (sendCell p.1 p.2) 0 0)
def paying (p : Dev nD × Fin 3) : sProp 𝕄 :=
  iprop(dutyTok ER (barCell (fwd p.2 p.1)) 0 p.2 ∗ dutyTok ER (recvCell (back p.2 p.1) p.2) 0 0 ∗ dutyTok ER (sendCell p.1 p.2) 0 0)

/-- What the launch deals device `c`: its cells' states, its positions, the marks of the first round, the tokens. -/
def G (c : Dev nD) : sProp 𝕄 :=
  iprop((bigSep Finset.univ fun k : Fin 7 => roundState ER (Rd m) (kcell (c, k)) 0)
    ∗ (bigSep Finset.univ fun k : Fin 7 => atPos ER (kcell (c, k)) 0 ∅ 0)
    ∗ (bigSep Finset.univ fun k : Fin 7 => reached ER (kcell (c, k)) 0)
    ∗ bigSep Finset.univ fun j : Fin 3 => minted (c, j))

/-- What it has made of it before the bodies start. -/
def G' (c : Dev nD) : sProp 𝕄 := iprop(∃ K, ghost m K c)

omit [FloatOps F] in
theorem sep3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The launch's ledger, dealt out device by device. -/
theorem deal : BI.own (ER (initOf cells tokens)) ⊢ (|==> bigSep Finset.univ (G m) : sProp 𝕄) := by
  have hcells (Φ : GSem nD τ sig → sProp 𝕄) :
      bigSep cells Φ = bigSep Finset.univ fun c : Dev nD => bigSep Finset.univ fun k : Fin 7 => Φ (kcell (c, k)) := by
    unfold cells; rw [bigSep_map, bigSep_univ_prod]; rfl
  have htoks : bigSep tokens (fun x => (dutyTok ER x.1 x.2.1 x.2.2 : sProp 𝕄))
      = bigSep Finset.univ fun c : Dev nD => bigSep Finset.univ fun j : Fin 3 => minted (c, j) := by
    unfold tokens
    rw [bigSep_map, bigSep_univ_prod, bigSep_univ_prod]
    exact bigSep_congr fun c _ => bigSep_congr fun j _ => by unfold minted; rw [sep3]; rfl
  iintro HX
  imod (Rounds.fund ER (Rd m) cells tokens) $$ HX with ⟨Hst, Hr, Hat, Htok⟩
  imodintro
  ihave Hst := (Entails.of_eq (hcells fun g => roundState ER (Rd m) g 0)) $$ Hst
  ihave Hat := (Entails.of_eq (hcells fun g => atPos ER g 0 ∅ 0)) $$ Hat
  ihave Hr := (Entails.of_eq (hcells fun g => reached ER g 0)) $$ Hr
  ihave Htok := (Entails.of_eq htoks) $$ Htok
  unfold G; simp only [bigSep_sep']
  isplitl [Hst]; · iexact Hst
  isplitl [Hat]; · iexact Hat
  isplitl [Hr] <;> iassumption

/-! ## The semaphores at zero become invariants -/

omit [FloatOps F] in
theorem ownSems0_eq (c : Dev nD) :
    (Pipeline.ownSems0 (Ix := Unit) (Name := ℕ) (U := UU) (Lvl := ℕ) (Val := Elt F) (τ := τ) osem c : sProp 𝕄) = quiet c := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The seven counters of a device, all at zero. -/
theorem counters (c : Dev nD) :
    iprop(quiet c ∗ semVal (barCell c) 0) ⊢ (bigSep Finset.univ fun k : Fin 7 => semVal (kcell (c, k)) 0 : sProp 𝕄) := by
  unfold quiet
  rw [sep7]
  iintro ⟨H, HB⟩
  isplitl [HB]; · iexact HB
  iexact H

/-- The names of a device's seven invariants, its positions, the marks, the tokens. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 7 => iprop(∃ κ : ℕ, cellInv ER (Rd m) κ (kcell (c, k))))
          ∗ (bigSep Finset.univ fun k : Fin 7 => atPos ER (kcell (c, k)) 0 ∅ 0)
          ∗ (bigSep Finset.univ fun k : Fin 7 => reached ER (kcell (c, k)) 0)
          ∗ bigSep Finset.univ fun j : Fin 3 => minted (c, j)) := by
  have hmk : iprop((bigSep Finset.univ fun k : Fin 7 => semVal (kcell (c, k)) 0)
        ∗ bigSep Finset.univ fun k : Fin 7 => roundState ER (Rd m) (kcell (c, k)) 0)
      ⊢ (|={Set.univ}=> bigSep Finset.univ fun k : Fin 7 => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [ownSems0_eq, unscopedSems0_eq]
  unfold G
  iintro ⟨Hq, Hb, Hst, Hrest⟩
  ihave Hv := (counters (F := F) c) $$ [Hq Hb]
  · isplitl [Hq] <;> iassumption
  imod hmk $$ [Hv Hst] with Hinv
  · isplitl [Hv] <;> iassumption
  imodintro
  isplitl [Hinv] <;> iassumption

/-! ## Dealing the tokens to those who pay with them -/

/-- The permutations of (device, slot) along which the barrier's and the receive cell's tokens travel. -/
def upward : Dev nD × Fin 3 ≃ Dev nD × Fin 3 :=
  ⟨fun p => (fwd p.2 p.1, p.2), fun p => (back p.2 p.1, p.2), fun p => Prod.ext (back_fwd _ _) rfl, fun p => Prod.ext (fwd_back _ _) rfl⟩

omit [FloatOps F] in
/-- Every token reaches the device that pays with it. -/
theorem dealt : (bigSep Finset.univ fun p : Dev nD × Fin 3 => (minted p : sProp 𝕄)) ⊢ bigSep Finset.univ fun p : Dev nD × Fin 3 => paying p := by
  unfold minted paying
  simp only [bigSep_sep']
  rw [bigSep_univ_equiv upward (fun p : Dev nD × Fin 3 => (dutyTok ER (barCell p.1) 0 p.2 : sProp 𝕄)),
    bigSep_univ_equiv upward.symm (fun p : Dev nD × Fin 3 => (dutyTok ER (recvCell p.1 p.2) 0 0 : sProp 𝕄))]
  exact .rfl

/-- What every device knows of all cells. -/
def known (K : Dev nD × Fin 7 → ℕ) : sProp 𝕄 :=
  iprop((bigSep Finset.univ fun p : Dev nD × Fin 7 => cellInv ER (Rd m) (K p) (kcell p))
    ∗ bigSep Finset.univ fun p : Dev nD × Fin 7 => reached ER (kcell p) 0)

instance known_persistent (K : Dev nD × Fin 7 → ℕ) : BI.Persistent (known m K) := by unfold known; infer_instance

section Known
variable (K : Dev nD × Fin 7 → ℕ)

omit [FloatOps F] in
/-- One of a family held for all. -/
theorem one_of {I : Type} [Fintype I] [DecidableEq I] (Φ : I → sProp 𝕄) (i : I) : (bigSep Finset.univ Φ : sProp 𝕄) ⊢ Φ i :=
  bigSep_elim (Finset.mem_univ i)

theorem known_inv (p : Dev nD × Fin 7) {g : GSem nD τ sig} (h : kcell p = g) : known m K ⊢ cellInv ER (Rd m) (K p) g := by
  subst h; unfold known; iintro ⟨H, -⟩; iapply (one_of (fun p : Dev nD × Fin 7 => cellInv ER (Rd m) (K p) (kcell p)) p); iexact H
theorem known_reached (p : Dev nD × Fin 7) {g : GSem nD τ sig} (h : kcell p = g) : known m K ⊢ reached ER g 0 := by
  subst h; unfold known; iintro ⟨-, H⟩; iapply (one_of (F := F) (fun p : Dev nD × Fin 7 => reached ER (kcell p) 0) p); iexact H

/-- The cells a device meets for slot `j`, out of all. -/
theorem known_links (c : Dev nD) (j : Fin 3) : known m K ⊢ links m K c j := by
  unfold links
  iintro #H
  isplitr; · iapply (known_inv m K (c, iS j) (kcell_send c j)); iexact H
  isplitr; · iapply (known_inv m K (c, iR j) (kcell_recv c j)); iexact H
  isplitr; · iapply (known_inv m K (fwd j c, 0) rfl); iexact H
  isplitr; · iapply (known_inv m K (back j c, iR j) (kcell_recv (back j c) j)); iexact H
  isplitr; · iapply (known_reached m K (c, iS j) (kcell_send c j)); iexact H
  isplitr; · iapply (known_reached m K (c, iR j) (kcell_recv c j)); iexact H
  isplitr; · iapply (known_reached m K (fwd j c, 0) rfl); iexact H
  iapply (known_reached m K (back j c, iR j) (kcell_recv (back j c) j)); iexact H

/-- With its positions and tokens, a device has all it holds of the exchange. -/
theorem ghost_of (c : Dev nD) :
    iprop(known m K ∗ (bigSep Finset.univ fun k : Fin 7 => atPos ER (kcell (c, k)) 0 ∅ 0) ∗ bigSep Finset.univ fun j : Fin 3 => paying (c, j))
      ⊢ (G' m c : sProp 𝕄) := by
  unfold G' ghost
  rw [sep7, sep3]
  unfold paying rights
  iintro ⟨#HK, ⟨HB, HS0, HS1, HS2, HR0, HR1, HR2⟩, ⟨Hb0, Hr0, Hs0⟩, ⟨Hb1, Hr1, Hs1⟩, ⟨Hb2, Hr2, Hs2⟩⟩
  iexists K
  isplitr
  · isplitr; · iapply (known_inv m K (c, 0) rfl); iexact HK
    isplitr; · iapply (known_links m K c 0); iexact HK
    isplitr; · iapply (known_links m K c 1); iexact HK
    iapply (known_links m K c 2); iexact HK
  isplitl [HB]; · iexact HB
  isplitl [HS0 HR0 Hb0 Hr0 Hs0]
  · isplitl [HS0]; · iexact HS0
    isplitl [HR0]; · iexact HR0
    isplitl [Hb0]; · iexact Hb0
    isplitl [Hr0] <;> iassumption
  isplitl [HS1 HR1 Hb1 Hr1 Hs1]
  · isplitl [HS1]; · iexact HS1
    isplitl [HR1]; · iexact HR1
    isplitl [Hb1]; · iexact Hb1
    isplitl [Hr1] <;> iassumption
  isplitl [HS2]; · iexact HS2
  isplitl [HR2]; · iexact HR2
  isplitl [Hb2]; · iexact Hb2
  isplitl [Hr2] <;> iassumption

end Known

omit [FloatOps F] in
/-- What all know goes to each. -/
theorem each_knows {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem gather :
    (bigSep Finset.univ fun c : Dev nD => iprop((bigSep Finset.univ fun k : Fin 7 => iprop(∃ κ : ℕ, cellInv ER (Rd m) κ (kcell (c, k))))
          ∗ (bigSep Finset.univ fun k : Fin 7 => atPos ER (kcell (c, k)) 0 ∅ 0)
          ∗ (bigSep Finset.univ fun k : Fin 7 => reached ER (kcell (c, k)) 0)
          ∗ bigSep Finset.univ fun j : Fin 3 => minted (c, j)) : sProp 𝕄)
      ⊢ bigSep Finset.univ (G' m) := by
  simp only [bigSep_sep']
  rw [← bigSep_univ_prod (fun p : Dev nD × Fin 7 => iprop(∃ κ : ℕ, cellInv ER (Rd m) κ (kcell p))),
    ← bigSep_univ_prod (fun p : Dev nD × Fin 7 => (reached ER (kcell p) 0 : sProp 𝕄)),
    ← bigSep_univ_prod (fun p : Dev nD × Fin 3 => (minted p : sProp 𝕄))]
  iintro ⟨HI, Hat, #HR, Htok⟩
  ihave HK := (BI.bigSep_exists_pi Finset.univ (fun (p : Dev nD × Fin 7) (κ : ℕ) => (cellInv ER (Rd m) κ (kcell p) : sProp 𝕄))) $$ HI
  icases HK with ⟨%K, #HI⟩
  ihave Htok := (dealt (F := F)) $$ Htok
  ihave Htok := (Entails.of_eq (bigSep_univ_prod (fun p : Dev nD × Fin 3 => (paying p : sProp 𝕄)))) $$ Htok
  iapply (each_knows (R := known m K) fun c => ghost_of m K c)
  isplitr
  · unfold known; isplitl; · iexact HI
    iexact HR
  rw [bigSep_sep']
  isplitl [Hat] <;> iassumption

/-- All devices' semaphores and ledgers at once become what each holds of the exchange. -/
theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) :=
  ((bigSep_mono fun c _ => alloc m c).trans (bigSep_fupd _ _)).trans (BI.fupd_mono (gather m))

/-! ## The credits -/

theorem bar_ne_recv (c d : Dev nD) (j : Fin 3) : barCell c ≠ recvCell d j := fun h => by
  have := congrArg Prod.snd h; cases this
theorem recv_inj {c d : Dev nD} {i j : Fin 3} (h : recvCell c i = recvCell d j) : c = d ∧ i = j := by
  have h1 : (c, iR i) = (d, iR j) := kcell_injective (by rw [kcell_recv, kcell_recv]; exact h)
  refine ⟨congrArg Prod.fst h1, Fin.ext ?_⟩
  have h2 : 4 + i.val = 4 + j.val := congrArg (fun p : Dev nD × Fin 7 => p.2.val) h1
  omega

/-- What a unit owed to one device's barrier is at another's; -/
theorem bar_at_bar (a c : Dev nD) : tallyAt (barCell a) () 1 (barCell c) () = if a = c then 1 else 0 := by
  rw [tallyAt_apply]
  by_cases h : a = c
  · subst h; rw [if_pos ⟨rfl, rfl⟩, if_pos rfl]
  · rw [if_neg (fun e => h (congrArg (fun g : GSem nD τ sig => g.1.1) e.1.symm)), if_neg h]
/-- at a receive cell, nothing; -/
theorem bar_at_recv (a c : Dev nD) (j : Fin 3) : tallyAt (barCell a) () 1 (recvCell c j) () = 0 := by
  rw [tallyAt_ne_cell (bar_ne_recv a c j).symm]; rfl
/-- what credit owed to one receive cell is at a barrier, nothing; -/
theorem recv_at_bar (a c : Dev nD) (j : Fin 3) : tallyAt (recvCell a j) () N (barCell c) () = 0 := by
  rw [tallyAt_ne_cell (bar_ne_recv c a j)]; rfl
/-- and at another receive cell. -/
theorem recv_at_recv (a c : Dev nD) (i j : Fin 3) : tallyAt (recvCell a i) () N (recvCell c j) () = if a = c ∧ i = j then N else 0 := by
  rw [tallyAt_apply]
  by_cases h : a = c ∧ i = j
  · obtain ⟨rfl, rfl⟩ := h; rw [if_pos ⟨rfl, rfl⟩, if_pos ⟨rfl, rfl⟩]
  · rw [if_neg (fun e => h (recv_inj e.1.symm)), if_neg h]

theorem tally_add (A B : CellTallies nD τ sig Unit) (g : GSem nD τ sig) (u : Unit) : (A + B) g u = A g u + B g u := by
  rw [Pi.add_apply, Finsupp.add_apply]

theorem owed_bar (d c : Dev nD) :
    oweAll d (barCell c) () = (if fwd 2 d = c then 1 else 0) + (if fwd 1 d = c then 1 else 0) + (if fwd 0 d = c then 1 else 0) := by
  unfold oweAll oweX
  rw [tally_add, tally_add, tally_add, tally_add, tally_add, recv_at_bar, recv_at_bar, recv_at_bar, bar_at_bar, bar_at_bar, bar_at_bar]
  simp only [Nat.zero_add]

theorem owed_recv (d c : Dev nD) (j : Fin 3) : oweAll d (recvCell c j) () = if back j d = c then N else 0 := by
  unfold oweAll oweX
  rw [tally_add, tally_add, tally_add, tally_add, tally_add, recv_at_recv, recv_at_recv, recv_at_recv, bar_at_recv, bar_at_recv, bar_at_recv]
  fin_cases j <;> simp

/-- The devices owe a barrier three units together, -/
theorem launch_bar (c : Dev nD) :
    tallyOn (barCell c) (launchCredit (Pipeline.owing oweAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- and a receive cell one transfer's bytes. -/
theorem launch_recv (c : Dev nD) (j : Fin 3) :
    tallyOn (recvCell c j) (launchCredit (Pipeline.owing oweAll) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => (owed_recv d c j).trans
    (if_congr (show back j d = c ↔ d = fwd j c from ⟨fun h => by rw [← h, fwd_back], fun h => by rw [h, back_fwd]⟩) rfl rfl),
    Finset.sum_ite_eq' Finset.univ (fwd j c) fun _ => N, if_pos (Finset.mem_univ _)]

/-- The credits a device waits with. -/
theorem creds (c : Dev nD) :
    (Pipeline.launchCred oweAll c : sProp 𝕄) ⊢ iprop(cred (tallyAt (barCell c) () 3) ∗ cred (tallyAt (recvCell c 0) () N)
      ∗ cred (tallyAt (recvCell c 1) () N) ∗ cred (tallyAt (recvCell c 2) () N)) := by
  unfold Pipeline.launchCred
  rw [← launch_bar, ← launch_recv, ← launch_recv, ← launch_recv]
  refine BI.Entails.trans (bigSep_subset (t := {SemLoc.reg barS, SemLoc.dma (recvS 0), SemLoc.dma (recvS 1), SemLoc.dma (recvS 2)})
    (Finset.subset_univ _)) (show (_ : sProp 𝕄) ⊢ _ from Entails.of_eq ?_)
  rw [bigSep_eq_bigSepL_of_eq [SemLoc.reg barS, SemLoc.dma (recvS 0), SemLoc.dma (recvS 1), SemLoc.dma (recvS 2)] (by decide) (by decide)]
  rfl

/-! ## The sides of the launch -/

/-- The argument no window stages. -/
abbrev router (c : Dev nD) : sProp 𝕄 := (((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred oweAll c ∗ prngReg c (ρ c) ∗ G' m c)
      ⊢ |={Set.univ}=> iprop(start m c ∗ router m c) := by
  rw [Pipeline.unscopedRestP_none, unscopedRest0_eq]
  iintro ⟨Ha, Hlev, Hcr, -, HG⟩
  ihave Hc := (creds (F := F) c) $$ Hcr
  imodintro
  unfold start G'
  isplitr [Ha]
  · isplitl [HG]; · iexact HG
    isplitl [Hc] <;> iassumption
  iexact Ha

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  iintro ⟨Hr, Hq, HB⟩
  isplitl [HB]; · iexact HB
  isplitl [Hq] <;> iassumption

/-- A staging semaphore ranks lowest. -/
theorem stage_low (w : Fin cfg0.W) (s) : rank (role (.dma ((cfg0.win w).sem s))) = 0 := by
  fin_cases w <;> fin_cases s <;> decide

theorem waits (c : Dev nD) : (levAts L lv : sProp 𝕄) ⊢ Pipeline.cellsWaits cfgs (dats m) () 0 c :=
  Pipeline.cellsWaits_intro cfgs (dats m) () 0 c fun w s t =>
    mayWait_low c _ (stage_low w s) _ (by rcases t with ⟨_ | _, ht⟩; exact Or.inl rfl; exact Or.inr rfl)

theorem share_eq (c : Dev nD) (w : Fin cfg0.W) : (dats m 0 c).share w = fullShare := by unfold Dat.share; split <;> rfl

/-! ## The run -/

/-- What the run leaves: each window's array as the body leaves it, the other argument as it was. -/
def Left (r : PUnit × MemSt nD τ sig (Elt F)) : Prop :=
  ∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)

/-- The program runs, for any float values and from any memory with zero counters. -/
theorem run_arrays : θ_run defs (onTc (τ := τ) (main (F := F))) (s₀ m ρ) (fun r => Left m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := oweAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := router m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Ha, HSI⟩
      icombine HSI Ha gives %ha
      imod (Pipeline.unscopedSems0_read (X := unscopedSems0 c) (c := c) fupd_intro s') $$ [Hu HSI] with ⟨%hz, HSI⟩
      · isplitl [Hu] <;> iassumption
      imodintro
      isplitr
      · ipureintro; exact ⟨hz, Buf.eq_of_forall_mem_univ ha⟩
      iexact HSI)
    (hQ := fun _ h hs => ⟨fun c => ⟨(h c).1, (h c).2.2.2⟩, sem_eq_zero hs fun c => (h c).2.2.1⟩)

end Cert.KernelIdeal.Exchange

end
-- ==== Proof.Frames.lean ====
/-
# The three runs leave their arguments as they were

The kernel's run, proved once for any float values, read at its four arguments: at the bit patterns and at the
extended reals. The reference has no semaphore, so its counters are zero whatever it does.
-/
module

public import proofs.«01_k».proof.Proof.Launch
public import proofs.«01_k».proof.Proof.Gen.Kernel
public import proofs.«01_k».proof.Proof.Gen.ReferenceIdeal.Run
public import proofs.«01_k».proof.Defs

@[expose] public section

set_option maxRecDepth 16384

noncomputable section

namespace Cert.KernelIdeal.Exchange

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- What the run leaves in the four argument arrays of a device is what they held. -/
theorem Left.args {m : (ℓ : Loc nD τ sig) → Buf (Elt F) ℓ} {r : PUnit × MemSt nD τ sig (Elt F)} (h : Left m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans ((dats m 0 c).arrAt_in 0 rfl _), (h c).2,
    ((h c).1 1).trans ((dats m 0 c).arrAt_in 1 rfl _), ((h c).1 2).trans ((dats m 0 c).arrAt_in 2 rfl _)⟩

/-- For any float values the kernel runs, leaves its arguments as they were, and ends with every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨h.1.args, h.2⟩) (run_arrays m ρ)

end Cert.KernelIdeal.Exchange

namespace Cert.Proof

open Idealize.ShloMosaic Idealize.ShloMosaic.TcCoe Idealize.SL.Sem

/-- The kernel at the extended reals runs, leaves its arguments, and ends with every counter at zero. -/
theorem frame_ideal : Cert.quiescent_KernelIdeal := fun m ρ _ => Cert.KernelIdeal.Exchange.run_frame (F := Ideal) m ρ

/-- The two programs' tables of bodies hold the same body at their one label. -/
theorem bodies_eq : Cert.Kernel.defs₀ (F := Bits) = Cert.KernelIdeal.defs₀ (F := Bits) := by
  refine congrArg Defs.onTc (funext fun l => funext fun a => ?_)
  match l, a with
  | ⟨0, _⟩, (_, _) => rfl

/-- So their tables with the pipeline added are the same. -/
theorem tables_eq : Cert.Kernel.defs (F := Bits) = Cert.KernelIdeal.defs (F := Bits) := by
  unfold Cert.Kernel.defs Cert.KernelIdeal.defs
  exact congrArg (Pipeline.defs Cert.KernelIdeal.pcfgs) bodies_eq

/-- The kernel at the bit patterns runs in the same way: the two programs have the same text. -/
theorem frame_kernel : Cert.quiescent_Kernel := fun m ρ _ => by
  rw [tables_eq]
  exact Cert.KernelIdeal.Exchange.run_frame (F := Bits) m ρ

/-- The reference runs, leaves its arguments, and has no counter that could differ from zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Rule.lean ====
/-
# The routing rule

Which expert serves a token, in words of natural numbers and of extended reals, and what the result holds then. Token
`t` names expert `e` when its routing word is `e`; `e` serves it when at most 51 tokens up to and including `t` name
`e`. A token names one word, so at most one of the eight experts serves it.
-/
module

public import Idealize.ShloMosaic.PureOps.Ideal.Laws
public import Idealize.ShloMosaic.Lib.ValueIdx
public import Idealize.ShloMosaic.Lib.ValueIdxCore
public import Idealize.ShloMosaic.PureOps.Float
public import Mathlib.Data.BitVec

@[expose] public section

noncomputable section

namespace Cert.Routed

open Idealize.ShloMosaic Idealize.ShloMosaic.ValueIdx
open scoped BigOperators

/-- The routing words, one per token. -/
abbrev Route : Type := (⟨2, ![512, 1]⟩ : Shape).Idx → BitVec 32

/-- Token `t` names expert `e`. -/
def names (g : Route) (t : Fin 512) (e : ℕ) : Prop := g (ix2 t (0 : Fin 1)) = BitVec.ofNat 32 e

instance (g : Route) (t : Fin 512) (e : ℕ) : Decidable (names g t e) := inferInstanceAs (Decidable (_ = _))

/-- How many tokens up to and including `t` name expert `e`. -/
def place (g : Route) (t : Fin 512) (e : ℕ) : ℕ := (Finset.univ.filter fun i : Fin 512 => i ≤ t ∧ names g i e).card

/-- Expert `e` serves token `t`: the token names it and is among its first 51. -/
def serves (g : Route) (t : Fin 512) (e : ℕ) : Prop := names g t e ∧ place g t e ≤ 51

instance (g : Route) (t : Fin 512) (e : ℕ) : Decidable (serves g t e) := inferInstanceAs (Decidable (_ ∧ _))

theorem place_le (g : Route) (t : Fin 512) (e : ℕ) : place g t e ≤ 512 :=
  (Finset.card_le_univ _).trans (le_of_eq (Fintype.card_fin 512))

theorem place_pos {g : Route} {t : Fin 512} {e : ℕ} (h : names g t e) : 1 ≤ place g t e :=
  Finset.card_pos.2 ⟨t, Finset.mem_filter.2 ⟨Finset.mem_univ t, le_refl t, h⟩⟩

/-- Two of the eight experts cannot both serve a token. -/
theorem serves_inj {g : Route} {t : Fin 512} {e e' : ℕ} (he : e < 8) (he' : e' < 8) (h : serves g t e) (h' : serves g t e') : e = e' := by
  have q : BitVec.ofNat 32 e = BitVec.ofNat 32 e' := h.1.symm.trans h'.1
  have q' := congrArg BitVec.toNat q
  rw [BitVec.toNat_ofNat, BitVec.toNat_ofNat] at q'
  omega

/-- The 0/1 mark of whether expert `e` serves token `t`. -/
def mark (g : Route) (t : Fin 512) (e : ℕ) : EReal := if serves g t e then 1 else 0

/-- What expert `e` contributes to entry `n` of token `t`'s result, given its product `y` there. -/
def contrib (g : Route) (t : Fin 512) (y : ℕ → EReal) (e : ℕ) : EReal := if serves g t e then y e else 0

/-- Choosing, expert after expert, the product of the one that serves is the sum of the contributions so far. -/
theorem choose_sum (g : Route) (t : Fin 512) (y : ℕ → EReal) (e : ℕ) (he : e < 8) :
    (if serves g t e then y e else ∑ i ∈ Finset.range e, contrib g t y i) = ∑ i ∈ Finset.range (e + 1), contrib g t y i := by
  rw [Finset.sum_range_succ]
  unfold contrib
  by_cases h : serves g t e
  · rw [if_pos h, if_pos h, Finset.sum_eq_zero, zero_add]
    intro i hi
    have hi' := Finset.mem_range.1 hi
    exact if_neg fun q => by have := serves_inj (by omega) he q h; omega
  · rw [if_neg h, if_neg h, add_zero]

/-- A contraction whose left operand is masked is the contraction if the mark is one, and zero if not. -/
theorem masked_sum {K : ℕ} (g : Route) (t : Fin 512) (e : ℕ) (x w : Fin K → EReal) :
    (∑ k, x k * mark g t e * w k) = if serves g t e then ∑ k, x k * w k else 0 := by
  unfold mark
  by_cases h : serves g t e
  · rw [if_pos h, if_pos h]
    exact Finset.sum_congr rfl fun k _ => by rw [mul_one]
  · rw [if_neg h, if_neg h]
    exact Finset.sum_eq_zero fun k _ => by rw [mul_zero, zero_mul]

/-- A sum of ones over the tokens up to `t` that name `e` is their number, as an extended real. -/
theorem count_real (g : Route) (t : Fin 512) (e : ℕ) :
    (∑ i : Fin 512, (if i ≤ t then (1 : EReal) else 0) * (if names g i e then 1 else 0)) = (place g t e : EReal) := by
  unfold place
  rw [← Finset.sum_boole]
  refine Finset.sum_congr rfl fun i _ => ?_
  by_cases h : i ≤ t <;> by_cases h' : names g i e <;> simp [h, h']

/-- The same sum in 32-bit words is their number, as a word. -/
theorem count_word (g : Route) (t : Fin 512) (e : ℕ) :
    (∑ i : Fin 512, if i ≤ t then (if names g i e then 1#32 else 0#32) else 0) = BitVec.ofNat 32 (place g t e) := by
  refine Eq.trans ?_ (Finset.sum_boole (R := BitVec 32) (fun i : Fin 512 => i ≤ t ∧ names g i e) Finset.univ)
  refine Finset.sum_congr rfl fun i _ => ?_
  by_cases h : i ≤ t <;> by_cases h' : names g i e <;> simp [h, h']

/-- Comparing a token's word with `e` is the bit of whether it names `e`. -/
theorem bit_names (g : Route) (t : Fin 512) (e : ℕ) :
    IntOp.cmpi .eq (g (ix2 t (0 : Fin 1))) (BitVec.ofNat 32 e) = if names g t e then 1#1 else 0#1 := by
  by_cases h : names g t e
  · rw [if_pos h, show g (ix2 t (0 : Fin 1)) = BitVec.ofNat 32 e from h]
    show BitVec.ofBool (BitVec.ofNat 32 e == BitVec.ofNat 32 e) = 1#1
    rw [beq_self_eq_true]; rfl
  · rw [if_neg h]
    show BitVec.ofBool (g (ix2 t (0 : Fin 1)) == BitVec.ofNat 32 e) = 0#1
    rw [beq_eq_false_iff_ne.2 h]; rfl

/-- The bits of naming and of being in time conjoin to the bit of serving. -/
theorem bit_serves (g : Route) (t : Fin 512) (e : ℕ) :
    IntOp.andi (if names g t e then 1#1 else 0#1) (if place g t e ≤ 51 then 1#1 else 0#1) = if serves g t e then 1#1 else 0#1 := by
  by_cases h : names g t e
  · by_cases h' : place g t e ≤ 51
    · rw [if_pos h, if_pos h', if_pos (show serves g t e from ⟨h, h'⟩)]; rfl
    · rw [if_pos h, if_neg h', if_neg fun r : serves g t e => h' r.2]; rfl
  · rw [if_neg h, if_neg fun r : serves g t e => h r.1]
    exact BitVec.zero_and

/-- The count as an extended real is at most 51 exactly when it is. -/
theorem count_real_le (n : ℕ) : ((n : ℕ) : EReal) ≤ (51 : EReal) ↔ n ≤ 51 := by
  exact_mod_cast Iff.rfl

end Cert.Routed

end
-- ==== Proof.Reference.lean ====
/-
# What the reference computes

The reference marks which expert serves which token from a running count of the tokens that name it, and replaces, expert after
expert, the rows of the served tokens by that expert's product. Entry `(t, n)` of its result is the sum over the eight
experts of the product of the one that serves `t`.
-/
module

public import proofs.«01_k».proof.Proof.Rule
public import proofs.«01_k».proof.Proof.Gen.ReferenceIdeal.Read
public import Idealize.ShloMosaic.Lib.Routing.OpsOne
public import Idealize.ShloMosaic.Lib.StackMember
public import Idealize.ShloMosaic.Lib.ValueLayout

@[expose] public section

set_option maxRecDepth 16384

noncomputable section

namespace Cert.Routed

open Cert.ReferenceIdeal Cert.ReferenceIdeal.Gen Cert.ReferenceIdeal.Read
open Idealize.ShloMosaic Idealize.ShloMosaic.ValueIdx
open scoped BigOperators

/-- Entry `n` of token `t`'s product with expert `e`'s matrix (nothing beyond the eight experts). -/
def prod8 (x : FVec Ideal ⟨2, ![512, 256]⟩ .bf16) (W : FVec Ideal ⟨3, ![8, 256, 512]⟩ .bf16) (t n : Fin 512) (e : ℕ) : EReal :=
  if h : e < 8 then ∑ k : Fin 256, x (ix2 t k) * W (ix3 (⟨e, h⟩ : Fin 8) k n) else 0

theorem prod8_of_lt (x : FVec Ideal ⟨2, ![512, 256]⟩ .bf16) (W : FVec Ideal ⟨3, ![8, 256, 512]⟩ .bf16) (t n : Fin 512) (e : Fin 8) :
    prod8 x W t n e.val = ∑ k : Fin 256, x (ix2 t k) * W (ix3 e k n) := dif_pos e.isLt

/-- The reference's first mark: token `t` names expert `e`. -/
theorem named_apply (g : Route) (t : Fin 512) (e : Fin 8) :
    val_main_v4 (F := Ideal) g (ix2 t e) = if names g t e.val then 1#1 else 0#1 := by
  rw [val_main_v4_apply, val_main_v2_apply, val_main_v3_apply, val_main_v1_apply, val_main_v0_apply, ← bit_names]
  have hi : idx_main_v2 (ix2 t e) = ix2 t (0 : Fin 1) := funext fun a => match a with
    | ⟨0, _⟩ => rfl
    | ⟨1, _⟩ => rfl
  rw [hi]

/-- Its running count: how many tokens up to `t` name `e`. -/
theorem running_apply (g : Route) (t : Fin 512) (e : Fin 8) :
    val_main_v6 (F := Ideal) g (ix2 t e) = BitVec.ofNat 32 (place g t e.val) := by
  unfold val_main_v6
  refine (Routing.cumsum_rows_sum (A := 512) (Am1 := 511) (N := 8) rfl _ _ rfl _ _ t e).trans ?_
  rw [← count_word]
  refine Finset.sum_congr rfl fun i _ => ?_
  congr 1
  rw [val_main_v5_apply, named_apply]
  by_cases h : names g i e.val
  · rw [if_pos h, if_pos h]; rfl
  · rw [if_neg h, if_neg h]; rfl

/-- One less than a count from 1 to 512 is below 51, as a signed word, exactly when the count is at most 51. -/
theorem pred_slt (n : ℕ) (h1 : 1 ≤ n) (h : n ≤ 512) :
    IntOp.cmpi .slt (IntOp.subi (BitVec.ofNat 32 n) 1#32) 51#32 = if n ≤ 51 then 1#1 else 0#1 := by
  obtain ⟨k, rfl⟩ : ∃ k, n = k + 1 := ⟨n - 1, by omega⟩
  have hs : IntOp.subi (BitVec.ofNat 32 (k + 1)) 1#32 = BitVec.ofNat 32 k := by
    show BitVec.ofNat 32 (k + 1) - 1#32 = _
    apply BitVec.eq_of_toNat_eq
    simp only [BitVec.toNat_sub, BitVec.toNat_ofNat]
    omega
  rw [hs]
  show BitVec.ofBool ((BitVec.ofNat 32 k).slt 51#32) = _
  have hb : (BitVec.ofNat 32 k).slt 51#32 = decide (k + 1 ≤ 51) := by
    rw [BitVec.slt, BitVec.toInt_eq_toNat_of_lt (by rw [BitVec.toNat_ofNat]; omega), BitVec.toNat_ofNat, Nat.mod_eq_of_lt (by omega)]
    show decide ((k : ℤ) < 51) = _
    exact decide_eq_decide.2 (by omega)
  rw [hb]
  by_cases q : k + 1 ≤ 51
  · rw [if_pos q, decide_eq_true q]; rfl
  · rw [if_neg q, decide_eq_false q]; rfl

/-- The reference's final mark: expert `e` serves token `t`. -/
theorem kept_apply (g : Route) (t : Fin 512) (e : Fin 8) :
    val_main_v11 (F := Ideal) g (ix2 t e) = if serves g t e.val then 1#1 else 0#1 := by
  rw [val_main_v11_apply, val_main_v10_apply, val_main_v8_apply, val_main_v7_apply, val_main_v9_apply, val_main_c_apply,
    named_apply, running_apply]
  rw [← bit_serves]
  by_cases h : names g t e.val
  · rw [if_pos h, show (1#1).setWidth 32 = 1#32 from rfl, pred_slt _ (place_pos h) (place_le g t e.val)]
  · rw [if_neg h]
    exact BitVec.zero_and.trans BitVec.zero_and.symm

/-- One expert's step: where the expert serves the token, its product; elsewhere what was there. If what was there is
    the sum of the earlier experts' contributions, what results is that sum with this expert's. -/
theorem step_apply (e : ℕ) (he : e < 8) (x : FVec Ideal S512x256 .bf16) (g : Route) (W : FVec Ideal S8x256x512 .bf16) (prev : FVec Ideal S512x512 .f32)
    (hk : S512x8.Slices ![0, e] S512x1) (hw : S8x256x512.Slices ![e, 0, 0] S1x256x512) (t n : Fin 512)
    (hp : prev (ix2 t n) = ∑ i ∈ Finset.range e, contrib g t (prod8 x W t n) i) :
    select (broadcastInDim S512x512 ![0, 1] bcast_S512x1_S512x512_0_1 (extractStridedSlice S512x1 ![0, e] (val_main_v11 (F := Ideal) g) hk))
      (Host.dotGeneral dot_S512x256_S256x512_S512x512_1_0_0_1_n_n none x
        (shapeCast S256x512 (extractStridedSlice S1x256x512 ![e, 0, 0] W hw) shapeCasts_S1x256x512_S256x512)) prev (ix2 t n)
      = ∑ i ∈ Finset.range (e + 1), contrib g t (prod8 x W t n) i := by
  rw [select_apply, hp, ← choose_sum g t _ e he]
  have hb : broadcastInDim S512x512 ![0, 1] bcast_S512x1_S512x512_0_1 (extractStridedSlice S512x1 ![0, e] (val_main_v11 (F := Ideal) g) hk) (ix2 t n)
      = if serves g t e then 1#1 else 0#1 := by
    rw [broadcastInDim_apply _ bcast_S512x1_S512x512_0_1 _ (ix2 t n) (ix2 t (0 : Fin 1)) (fun a => match a with
      | ⟨0, _⟩ => by show t.val = if (512 : ℕ) = 1 then 0 else t.val; rw [if_neg (by decide)]
      | ⟨1, _⟩ => by show 0 = if (1 : ℕ) = 1 then 0 else n.val; rw [if_pos rfl]),
      extractStridedSlice_apply ![0, e] _ hk (ix2 t (0 : Fin 1)) (ix2 t (⟨e, he⟩ : Fin 8)) (fun a => match a with
      | ⟨0, _⟩ => by show t.val = 0 + t.val; omega
      | ⟨1, _⟩ => by show e = e + 0; omega)]
    exact kept_apply g t ⟨e, he⟩
  have hd : Host.dotGeneral dot_S512x256_S256x512_S512x512_1_0_0_1_n_n none x
        (shapeCast S256x512 (extractStridedSlice S1x256x512 ![e, 0, 0] W hw) shapeCasts_S1x256x512_S256x512) (ix2 t n)
      = prod8 x W t n e := by
    refine (StackMember.dotGeneral_plain_apply none x _ t n).trans ?_
    rw [show prod8 x W t n e = _ from prod8_of_lt x W t n ⟨e, he⟩]
    refine Finset.sum_congr rfl fun k _ => ?_
    congr 1
    rw [shapeCast_apply _ shapeCasts_S1x256x512_S256x512 (ix2 k n) (ix3 (0 : Fin 1) k n)
        (by rewrite [Shape.rowMajor_val_three, Shape.rowMajor_val_two]; show (0 * 256 + k.val) * 512 + n.val = k.val * 512 + n.val; omega),
      extractStridedSlice_apply ![e, 0, 0] W hw (ix3 (0 : Fin 1) k n) (ix3 (⟨e, he⟩ : Fin 8) k n) (fun a => match a with
      | ⟨0, _⟩ => by show e = e + 0; omega
      | ⟨1, _⟩ => by show k.val = 0 + k.val; omega
      | ⟨2, _⟩ => by show n.val = 0 + n.val; omega)]
  rw [hb, hd]
  by_cases h : serves g t e
  · rw [if_pos h, if_pos h, select_one]
  · rw [if_neg h, if_neg h, select_zero]

/-- THE REFERENCE'S RESULT at `(t, n)`: the sum of the eight experts' contributions. -/
theorem reference_apply (x : FVec Ideal S512x256 .bf16) (g : Route) (W : FVec Ideal S8x256x512 .bf16) (t n : Fin 512) :
    val_main_v53 (F := Ideal) x g W (ix2 t n) = ∑ i ∈ Finset.range 8, contrib g t (prod8 x W t n) i := by
  have h0 : val_main_v12 (F := Ideal) (ix2 t n) = ∑ i ∈ Finset.range 0, contrib g t (prod8 x W t n) i := by
    rw [val_main_v12_apply, val_main_cst_apply, Finset.sum_range_zero]
    exact Ideal.ofBits_zero_f32
  have h1 := step_apply 0 (by decide) x g W _ slices_S512x8_S512x1_0_0 slices_S8x256x512_S1x256x512_0_0_0 t n h0
  have h2 := step_apply 1 (by decide) x g W _ slices_S512x8_S512x1_0_1 slices_S8x256x512_S1x256x512_1_0_0 t n h1
  have h3 := step_apply 2 (by decide) x g W _ slices_S512x8_S512x1_0_2 slices_S8x256x512_S1x256x512_2_0_0 t n h2
  have h4 := step_apply 3 (by decide) x g W _ slices_S512x8_S512x1_0_3 slices_S8x256x512_S1x256x512_3_0_0 t n h3
  have h5 := step_apply 4 (by decide) x g W _ slices_S512x8_S512x1_0_4 slices_S8x256x512_S1x256x512_4_0_0 t n h4
  have h6 := step_apply 5 (by decide) x g W _ slices_S512x8_S512x1_0_5 slices_S8x256x512_S1x256x512_5_0_0 t n h5
  have h7 := step_apply 6 (by decide) x g W _ slices_S512x8_S512x1_0_6 slices_S8x256x512_S1x256x512_6_0_0 t n h6
  exact step_apply 7 (by decide) x g W _ slices_S512x8_S512x1_0_7 slices_S8x256x512_S1x256x512_7_0_0 t n h7

end Cert.Routed

end
-- ==== Proof.Marks.lean ====
/-
# The marks a device computes

Device `c` holds experts `2 c` and `2 c + 1`. It counts, by one product of 0/1 matrices, the tokens up to each that name
either, and writes 1 where the expert serves the token and 0 elsewhere.
-/
module

public import proofs.«01_k».proof.Proof.Rule
public import proofs.«01_k».proof.Proof.Gen.KernelIdeal.Skeleton
public import Idealize.ShloMosaic.Lib.MatmulPlain
public import Idealize.ShloMosaic.Lib.ValueLayout
public import Idealize.ShloMosaic.Lib.Pipeline.Value

@[expose] public section

set_option maxRecDepth 16384

noncomputable section

namespace Cert.Routed

open Cert.KernelIdeal Cert.KernelIdeal.Gen
open Idealize.ShloMosaic Idealize.ShloMosaic.ValueIdx
open scoped BigOperators

/-- The word device `c` compares with for its expert `e`: `2 c + e`. -/
theorem expert_word (c : Dev nD) (e : Fin 2) :
    IntOp.addi (Scalar.muli (Scalar.remsi (Scalar.divsi (Dev.word c) 1#32) 4#32) 2#32) (BitVec.ofNat 32 e.val) = BitVec.ofNat 32 (2 * c.val + e.val) := by
  revert c e; decide

/-- The bit "token `t` names my expert `e`". -/
theorem pay1_apply (c : Dev nD) (g : Route) (t : Fin 512) (e : Fin 2) :
    k0_pay1 (F := Ideal) c g (ix2 t e) = if names g t (2 * c.val + e.val) then 1#1 else 0#1 := by
  rw [← bit_names, ← expert_word]
  unfold k0_pay1
  show IntOp.cmpi .eq (broadcastTo S512x2 _ broadcasts_S512x1_S512x2 (ix2 t e)) (broadcastTo S512x2 _ broadcasts_S1x2_S512x2 (ix2 t e)) = _
  rw [shapeCast_self, broadcastTo_apply _ broadcasts_S512x1_S512x2 (ix2 t e) (ix2 t (0 : Fin 1)) (fun a => match a with
      | ⟨0, _⟩ => rfl
      | ⟨1, _⟩ => rfl),
    broadcastTo_apply _ broadcasts_S1x2_S512x2 (ix2 t e) (ix2 (0 : Fin 1) e) (fun a => match a with
      | ⟨0, _⟩ => rfl
      | ⟨1, _⟩ => rfl),
    shapeCast_apply _ shapeCasts_S2_S1x2 (ix2 (0 : Fin 1) e) (ix1 e)
      (by rewrite [Shape.rowMajor_val_one, Shape.rowMajor_val_two]; show e.val = 0 * 2 + e.val; omega)]
  show IntOp.cmpi .eq _ (IntOp.addi _ (shapeCast S2 _ shapeCasts_S1x2_S2 (ix1 e))) = _
  rw [shapeCast_apply _ shapeCasts_S1x2_S2 (ix1 e) (ix2 (0 : Fin 1) e)
      (by rewrite [Shape.rowMajor_val_one, Shape.rowMajor_val_two]; show 0 * 2 + e.val = e.val; omega),
    iota_single_apply]
  rfl

/-- A signed word read as an extended real. -/
def wordReal (b : BitVec 32) : EReal := ((b.toInt : ℝ) : EReal)

/-- A bit's value as an extended real. -/
theorem real_bit (p : Prop) [Decidable p] : wordReal (((if p then 1#1 else 0#1 : BitVec 1)).setWidth 32) = if p then 1 else 0 := by
  by_cases h : p
  · rw [if_pos h, if_pos h]
    show ((((1#1).setWidth 32).toInt : ℝ) : EReal) = 1
    exact_mod_cast (by decide : ((1#1).setWidth 32).toInt = 1)
  · rw [if_neg h, if_neg h]
    show ((((0#1).setWidth 32).toInt : ℝ) : EReal) = 0
    exact_mod_cast (by decide : ((0#1).setWidth 32).toInt = 0)

/-- Comparing the words of two row numbers compares the rows. -/
theorem row_le (i t : Fin 512) : IntOp.cmpi .sle (BitVec.ofNat 32 i.val) (BitVec.ofNat 32 t.val) = if i ≤ t then 1#1 else 0#1 := by
  have hi := i.isLt
  have ht := t.isLt
  show BitVec.ofBool ((BitVec.ofNat 32 i.val).sle (BitVec.ofNat 32 t.val)) = _
  have hb : (BitVec.ofNat 32 i.val).sle (BitVec.ofNat 32 t.val) = decide (i ≤ t) := by
    rw [BitVec.sle, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.2 (by rw [Fin.le_def]; omega)
  rw [hb]
  by_cases q : i ≤ t
  · rw [if_pos q, decide_eq_true q]; rfl
  · rw [if_neg q, decide_eq_false q]; rfl

/-- The lower triangle of ones: entry `(t, i)` is 1 when `i ≤ t`. -/
theorem pay2_apply (t i : Fin 512) : k0_pay2 (F := Ideal) (ix2 t i) = if i ≤ t then 1 else 0 := by
  unfold k0_pay2
  show wordReal ((IntOp.cmpi .sle (iota .tc S512x512 32 [1] iota_S512x512_d1_w32 (ix2 t i)) (iota .tc S512x512 32 [0] iota_S512x512_d0_w32 (ix2 t i))).setWidth 32) = _
  rw [iota_single_apply, iota_single_apply]
  show wordReal ((IntOp.cmpi .sle (BitVec.ofNat 32 i.val) (BitVec.ofNat 32 t.val)).setWidth 32) = _
  rw [row_le, real_bit]

/-- The naming bits as extended reals. -/
theorem pay3_apply (c : Dev nD) (g : Route) (t : Fin 512) (e : Fin 2) :
    k0_pay3 (F := Ideal) c g (ix2 t e) = if names g t (2 * c.val + e.val) then 1 else 0 := by
  unfold k0_pay3
  show wordReal ((k0_pay1 (F := Ideal) c g (ix2 t e)).setWidth 32) = _
  rw [pay1_apply, real_bit]

/-- The literal the count is compared with is 51. -/
theorem cap_value : Ideal.ofBits .f32 0x424C0000#32 = 51 := by
  simp [Ideal.ofBits, Ideal.ieee, -EReal.coe_mul]; norm_num; rfl

/-- THE MARKS device `c` writes: 1 where its expert `e` serves token `t`, 0 elsewhere. -/
theorem marks_apply (c : Dev nD) (g : Route) (t : Fin 512) (e : Fin 2) :
    k0_pay4 (F := Ideal) (k0_pay1 (F := Ideal) c g) k0_pay2 (k0_pay3 (F := Ideal) c g) (ix2 t e) = mark g t (2 * c.val + e.val) := by
  unfold k0_pay4
  rw [shapeCast_self]
  show wordReal ((IntOp.andi (k0_pay1 (F := Ideal) c g (ix2 t e))
    (Ideal.cmp .ole (FloatOps.matmul (DotDims.plain 512 512 2) none (k0_pay2 (F := Ideal)) (k0_pay3 (F := Ideal) c g) (constant (F := Ideal) S512x2 .f32 0x00000000#32) (ix2 t e))
      (Ideal.ofBits .f32 0x424C0000#32))).setWidth 32) = _
  have hc : FloatOps.matmul (DotDims.plain 512 512 2) none (k0_pay2 (F := Ideal)) (k0_pay3 (F := Ideal) c g) (constant (F := Ideal) S512x2 .f32 0x00000000#32) (ix2 t e)
      = ((place g t (2 * c.val + e.val) : ℕ) : EReal) := by
    rw [Ideal.matmul_plain_apply, ← count_real, constant_apply, Ideal.ofBits_zero_f32, zero_add]
    exact Finset.sum_congr rfl fun i _ => by rw [pay2_apply, pay3_apply]
  have hb : Ideal.cmp .ole ((place g t (2 * c.val + e.val) : ℕ) : EReal) 51 = if place g t (2 * c.val + e.val) ≤ 51 then 1#1 else 0#1 := by
    show BitVec.ofBool (decide (((place g t (2 * c.val + e.val) : ℕ) : EReal) ≤ 51)) = _
    by_cases q : place g t (2 * c.val + e.val) ≤ 51
    · rw [if_pos q, decide_eq_true ((count_real_le _).2 q)]; rfl
    · rw [if_neg q, decide_eq_false fun r => q ((count_real_le _).1 r)]; rfl
  rw [hc, cap_value, hb, pay1_apply, bit_serves, real_bit]
  rfl

end Cert.Routed

end
-- ==== Proof.Contents.lean ====
/-
# What a device's result holds

What two experts contribute to a chunk, read entry by entry; the staged blocks, which are the whole arrays; and the
result array after the run.
-/
module

public import proofs.«01_k».proof.Proof.Marks
public import proofs.«01_k».proof.Proof.Body

@[expose] public section

set_option maxRecDepth 16384

noncomputable section

namespace Cert.Routed

open Cert.KernelIdeal Cert.KernelIdeal.Gen Cert.KernelIdeal.Exchange
open Idealize.ShloMosaic Idealize.ShloMosaic.TcCoe Idealize.ShloMosaic.ValueIdx
open Idealize.ShloMosaic.Pipeline (Dat Cfg Window)
open scoped BigOperators

/-- Column `e` of the marks, spread over the tokens' entries. -/
theorem spread_apply (e : Fin 2) (K : FVec Ideal S128x2 .bf16) (h : S128x2.Slices ![0, e.val] S128x1) (r : Fin 128) (k : Fin 256) :
    broadcastTo S128x256 (extractStridedSlice S128x1 ![0, e.val] K h) broadcasts_S128x1_S128x256 (ix2 r k) = K (ix2 r e) := by
  rw [broadcastTo_apply _ broadcasts_S128x1_S128x256 (ix2 r k) (ix2 r (0 : Fin 1)) (fun a => match a with
      | ⟨0, _⟩ => rfl
      | ⟨1, _⟩ => rfl),
    extractStridedSlice_apply ![0, e.val] K h (ix2 r (0 : Fin 1)) (ix2 r e) (fun a => match a with
      | ⟨0, _⟩ => by show r.val = 0 + r.val; omega
      | ⟨1, _⟩ => by show e.val = e.val + 0; omega)]

/-- One expert's masked product with a chunk of tokens. -/
theorem masked_product_apply (e : Fin 2) (X : FVec Ideal S128x256 .bf16) (K : FVec Ideal S128x2 .bf16) (Y : FVec Ideal S1x256x512 .bf16)
    (h : S128x2.Slices ![0, e.val] S128x1) (r : Fin 128) (n : Fin 512) :
    matmul (F := Ideal) dot_S128x256_S256x512_S128x512_1_0_0_1_n_n none
      (mulf (shapeCast S128x256 X shapeCasts_S128x256_S128x256) (broadcastTo S128x256 (extractStridedSlice S128x1 ![0, e.val] K h) broadcasts_S128x1_S128x256))
      (shapeCast S256x512 Y shapeCasts_S1x256x512_S256x512) (constant (F := Ideal) S128x512 .f32 0x00000000#32) (ix2 r n)
      = ∑ k : Fin 256, X (ix2 r k) * K (ix2 r e) * Y (ix3 (0 : Fin 1) k n) := by
  refine (Ideal.matmul_plain_apply none _ _ _ r n).trans ?_
  rw [constant_apply, Ideal.ofBits_zero_f32, zero_add]
  refine Finset.sum_congr rfl fun k _ => ?_
  rw [mulf_apply, shapeCast_self, spread_apply,
    shapeCast_apply _ shapeCasts_S1x256x512_S256x512 (ix2 k n) (ix3 (0 : Fin 1) k n)
      (by rewrite [Shape.rowMajor_val_three, Shape.rowMajor_val_two]; show (0 * 256 + k.val) * 512 + n.val = k.val * 512 + n.val; omega)]

/-- Two experts' contribution to a chunk of tokens. -/
theorem pay10_apply (X : FVec Ideal S128x256 .bf16) (K : FVec Ideal S128x2 .bf16) (Y₀ Y₁ : FVec Ideal S1x256x512 .bf16) (r : Fin 128) (n : Fin 512) :
    k0_pay10 (F := Ideal) X K Y₀ Y₁ (ix2 r n)
      = (∑ k : Fin 256, X (ix2 r k) * K (ix2 r (0 : Fin 2)) * Y₀ (ix3 (0 : Fin 1) k n)) + ∑ k : Fin 256, X (ix2 r k) * K (ix2 r (1 : Fin 2)) * Y₁ (ix3 (0 : Fin 1) k n) := by
  rw [← masked_product_apply 0 X K Y₀ slices_S128x2_o0_0_S128x1, ← masked_product_apply 1 X K Y₁ slices_S128x2_o0_1_S128x1]
  rfl

/-- Token `r` of chunk `d`. -/
def token (d : Dev nD) (r : Fin 128) : Fin 512 := ⟨128 * d.val + r.val, by have hd : d.val < 4 := d.isLt; have := r.isLt; omega⟩

/-- A chunk's rows of the tokens, read from the whole. -/
theorem read_tokens (d : Dev nD) (f : S512x256.Idx → Elt Ideal .bf16) (r : Fin 128) (k : Fin 256) :
    xM.view.readAt (Elt Ideal) (xRows d).toLoadRect f (ix2 r k) = f (ix2 (token d r) k) :=
  congrArg f (funext fun a => Fin.ext (match a with
    | ⟨0, _⟩ => by show 128 * d.val + 1 * r.val = 128 * d.val + r.val; omega
    | ⟨1, _⟩ => by show 0 + 1 * k.val = k.val; omega))

/-- A chunk's rows of the marks, read from the whole. -/
theorem read_marks (d : Dev nD) (f : S512x2.Idx → Elt Ideal .bf16) (r : Fin 128) (e : Fin 2) :
    keepM.view.readAt (Elt Ideal) (kRows d).toLoadRect f (ix2 r e) = f (ix2 (token d r) e) :=
  congrArg f (funext fun a => Fin.ext (match a with
    | ⟨0, _⟩ => by show 128 * d.val + 1 * r.val = 128 * d.val + r.val; omega
    | ⟨1, _⟩ => by show 0 + 1 * e.val = e.val; omega))

/-- An expert's matrix, read from the pair. -/
theorem read_expert (e : Fin 2) (h : ∀ a, (![e.val, 0, 0] : Fin 3 → ℕ) a + S1x256x512.size a ≤ S2x256x512.size a)
    (f : S2x256x512.Idx → Elt Ideal .bf16) (k : Fin 256) (n : Fin 512) :
    wM.view.readAt (Elt Ideal) (Rect.unit (s := S2x256x512) ![e.val, 0, 0] S1x256x512.size h).toLoadRect f (ix3 (0 : Fin 1) k n) = f (ix3 e k n) :=
  congrArg f (funext fun a => Fin.ext (match a with
    | ⟨0, _⟩ => by show e.val + 1 * 0 = e.val; omega
    | ⟨1, _⟩ => by show 0 + 1 * k.val = k.val; omega
    | ⟨2, _⟩ => by show 0 + 1 * n.val = n.val; omega))

variable (m : (ℓ : Loc nD τ sig) → Buf (Elt Ideal) ℓ)

/-- The staged blocks are the arrays as launched: each window's one block is its whole array. -/
theorem xstg_eq (c : Dev nD) : xstg m c = m ((c : Thread nD τ).loc main_arg0) :=
  Memref.read_access_unit_zero (Elt Ideal) main_arg0 (by funext a; revert a; decide) _ _

theorem gstg_eq (c : Dev nD) : gstg m c = m ((c : Thread nD τ).loc main_arg2) :=
  Memref.read_access_unit_zero (Elt Ideal) main_arg2 (by funext a; revert a; decide) _ _

theorem wstg_eq (c : Dev nD) : wstg m c = m ((c : Thread nD τ).loc main_arg3) :=
  Memref.read_access_unit_zero (Elt Ideal) main_arg3 (by funext a; revert a; decide) _ _

/-- The marks device `c` holds. -/
theorem keepAt_apply (c : Dev nD) (t : Fin 512) (e : Fin 2) : keepAt m c (ix2 t e) = mark (gstg m c) t (2 * c.val + e.val) := by
  have hr : gM.view.readAt (Elt Ideal) (Rect.unit (s := S512x1) ![0, 0] S512x1.size inb_S512x1_S512x1_0_0).toLoadRect (gstg m c) = gstg m c :=
    Memref.readAt_unit_zero (Elt Ideal) cc0_stg1_0 (by funext a; revert a; decide) _ _
  unfold keepAt
  rw [hr]
  exact marks_apply c (gstg m c) t e

/-- Entry `n` of token `t`'s product with the device's expert `e`. -/
def prod2 (x : FVec Ideal S512x256 .bf16) (w : FVec Ideal S2x256x512 .bf16) (t n : Fin 512) (e : Fin 2) : EReal :=
  ∑ k : Fin 256, x (ix2 t k) * w (ix3 e k n)

/-- WHAT DEVICE `c` CONTRIBUTES to chunk `d`: at each token, the product of whichever of its two experts serves it. -/
theorem part_apply (c d : Dev nD) (r : Fin 128) (n : Fin 512) :
    part m c d (ix2 r n)
      = contrib (gstg m c) (token d r) (fun _ => prod2 (xstg m c) (wstg m c) (token d r) n 0) (2 * c.val)
        + contrib (gstg m c) (token d r) (fun _ => prod2 (xstg m c) (wstg m c) (token d r) n 1) (2 * c.val + 1) := by
  unfold part
  refine (pay10_apply _ _ _ _ r n).trans ?_
  unfold contrib prod2
  rw [← masked_sum, ← masked_sum]
  congr 1
  · refine Finset.sum_congr rfl fun k _ => ?_
    rw [read_tokens, read_marks, keepAt_apply]
    exact congrArg _ (read_expert 0 inb_S2x256x512_S1x256x512_0_0_0 _ k n)
  · refine Finset.sum_congr rfl fun k _ => ?_
    rw [read_tokens, read_marks, keepAt_apply]
    exact congrArg _ (read_expert 1 inb_S2x256x512_S1x256x512_1_0_0 _ k n)

/-- The result array after the run is what the body leaves in its buffer: one point flushes, and its block is the whole array. -/
theorem result_array (c : Dev nD) : (dats m 0 c).arrAt 3 cfg0.N = outAt m c := by
  refine (dats m 0 c).arrAt_eq_of_cover 3 (outAt m c) (fun t _ => ?_) fun i => ⟨t0_0, by decide, ?_⟩
  · rw [show t = t0_0 from fin_N0 t]
    exact (Memref.read_access_unit_zero (Elt Ideal) main_v1 (by funext a; revert a; decide) _ _).symm
  · exact Finset.mem_map.2 ⟨i, Finset.mem_univ _, funext fun a => Fin.ext (by
      show _ = (i a).val
      refine (Window.rect_emb_val_of_index_zero (cfg0.win 3) t0_0 a ?_ i)
      exact (by decide : ∀ a : Fin 2, (cfg0.win 3).index t0_0 a = 0) a)⟩

end Cert.Routed

end
-- ==== Proof.Equation.lean ====
/-
# The kernel's result is the reference's

Device `c`'s chunk adds what all four devices contribute to it. Their pairs of experts are the eight, so the sum is the
reference's, row by row; and both programs run.
-/
module

public import proofs.«01_k».proof.Defs
public import proofs.«01_k».proof.Proof.Reference
public import proofs.«01_k».proof.Proof.Contents
public import proofs.«01_k».proof.Proof.Frames
public import Idealize.ShloMosaic.Lib.Layout

@[expose] public section

set_option maxRecDepth 16384

noncomputable section

namespace Cert.Routed

open Cert.KernelIdeal Cert.KernelIdeal.Gen Cert.KernelIdeal.Exchange
open Idealize.ShloMosaic Idealize.ShloMosaic.TcCoe Idealize.ShloMosaic.ValueIdx Idealize.SL.Sem
open scoped BigOperators

/-- A device and the three it receives from are the four devices. -/
theorem four_devices (f : Dev nD → EReal) (c : Dev nD) : f c + ((f (fwd 0 c) + f (fwd 1 c)) + f (fwd 2 c)) = f 0 + f 1 + f 2 + f 3 := by
  have h : ∀ c : Dev nD, (c = 0 ∧ fwd 0 c = 1 ∧ fwd 1 c = 2 ∧ fwd 2 c = 3) ∨ (c = 1 ∧ fwd 0 c = 2 ∧ fwd 1 c = 3 ∧ fwd 2 c = 0)
      ∨ (c = 2 ∧ fwd 0 c = 3 ∧ fwd 1 c = 0 ∧ fwd 2 c = 1) ∨ (c = 3 ∧ fwd 0 c = 0 ∧ fwd 1 c = 1 ∧ fwd 2 c = 2) := by decide
  rcases h c with ⟨h0, h1, h2, h3⟩ | ⟨h0, h1, h2, h3⟩ | ⟨h0, h1, h2, h3⟩ | ⟨h0, h1, h2, h3⟩ <;> rw [h1, h2, h3, h0] <;> abel

/-- A device's expert `e` is expert `2 c + e` of the eight. -/
theorem prod2_block (x : FVec Ideal ⟨2, ![512, 256]⟩ .bf16) (W : FVec Ideal ⟨3, ![8, 256, 512]⟩ .bf16) (c : Dev nD) (t n : Fin 512) (e : Fin 2) :
    prod2 x (Layout.block ⟨3, ![2, 256, 512]⟩ ⟨3, ![8, 256, 512]⟩ 0 4 c W) t n e = prod8 x W t n (2 * c.val + e.val) := by
  have hc : c.val < 4 := c.isLt
  have he := e.isLt
  rw [show prod8 x W t n (2 * c.val + e.val) = _ from prod8_of_lt x W t n ⟨2 * c.val + e.val, by omega⟩]
  refine Finset.sum_congr rfl fun k _ => ?_
  rw [Layout.block_apply]
  refine congrArg (fun i => x (ix2 t k) * W i) (funext fun a => Fin.ext (match a with
    | ⟨0, _⟩ => by show c.val * 2 + e.val = 2 * c.val + e.val; omega
    | ⟨1, _⟩ => rfl
    | ⟨2, _⟩ => rfl))

variable (m : (ℓ : Loc nD τ sig) → Buf (Elt Ideal) ℓ)

/-- What one device contributes to an entry, as contributions of two of the eight experts. -/
theorem part_eq (x : FVec Ideal ⟨2, ![512, 256]⟩ .bf16) (g : Route) (W : FVec Ideal ⟨3, ![8, 256, 512]⟩ .bf16) (s d : Dev nD)
    (hx : m ((s : Thread nD τ).loc main_arg0) = x) (hg : m ((s : Thread nD τ).loc main_arg2) = g)
    (hW : m ((s : Thread nD τ).loc main_arg3) = Layout.block ⟨3, ![2, 256, 512]⟩ ⟨3, ![8, 256, 512]⟩ 0 4 s W) (r : Fin 128) (n : Fin 512) :
    part m s d (ix2 r n) = contrib g (token d r) (prod8 x W (token d r) n) (2 * s.val) + contrib g (token d r) (prod8 x W (token d r) n) (2 * s.val + 1) := by
  rw [part_apply, xstg_eq, gstg_eq, wstg_eq, hx, hg, hW, prod2_block, prod2_block]
  rfl

/-- THE EQUATION: device `c`'s result is chunk `c` of the reference's. -/
theorem outAt_eq (x : FVec Ideal ⟨2, ![512, 256]⟩ .bf16) (g : Route) (W : FVec Ideal ⟨3, ![8, 256, 512]⟩ .bf16)
    (h : ∀ s : Dev nD, m ((s : Thread nD τ).loc main_arg0) = x ∧ m ((s : Thread nD τ).loc main_arg2) = g
      ∧ m ((s : Thread nD τ).loc main_arg3) = Layout.block ⟨3, ![2, 256, 512]⟩ ⟨3, ![8, 256, 512]⟩ 0 4 s W) (c : Dev nD) :
    outAt m c = Layout.block ⟨2, ![128, 512]⟩ ⟨2, ![512, 512]⟩ 0 4 c (Cert.ReferenceIdeal.Read.val_main_v53 (F := Ideal) x g W) := by
  funext i
  obtain ⟨r, n, rfl⟩ : ∃ (r : Fin 128) (n : Fin 512), i = ix2 r n := ⟨i 0, i 1, eq_ix2 i⟩
  have hi : Layout.Tiles.idx (by decide : Layout.Tiles ⟨2, ![128, 512]⟩ ⟨2, ![512, 512]⟩ 0 4) c (ix2 r n) = ix2 (token c r) n :=
    funext fun a => Fin.ext (match a with
      | ⟨0, _⟩ => by show c.val * 128 + r.val = 128 * c.val + r.val; omega
      | ⟨1, _⟩ => rfl)
  rw [Layout.block_apply, hi, reference_apply]
  show part m c c (ix2 r n) + ((part m (fwd 0 c) c (ix2 r n) + part m (fwd 1 c) c (ix2 r n)) + part m (fwd 2 c) c (ix2 r n)) = _
  rw [four_devices (fun s => part m s c (ix2 r n)) c]
  have hp := fun s : Dev nD => part_eq m x g W s c (h s).1 (h s).2.1 (h s).2.2 r n
  rw [hp 0, hp 1, hp 2, hp 3]
  simp only [Finset.sum_range_succ, Finset.sum_range_zero, zero_add, add_assoc]
  rfl

end Cert.Routed

namespace Cert.Proof

open Idealize.ShloMosaic Idealize.ShloMosaic.TcCoe Idealize.SL.Sem

/-- THE VALUE CLAIM at the extended reals: from the same arguments, each device's part of the experts being its block of
    them, both programs run, and device `c`'s result is chunk `c` of the reference's. -/
theorem algebraic : Cert.algebraic_KernelIdeal_ReferenceIdeal := fun m ρ m' ρ' _ hag =>
  ⟨Cert.ReferenceIdeal.Read.val_main_v53 (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run _ _ _).mono (fun _ h c => ⟨((h.1 c).1 3).trans ((Cert.Routed.result_array m c).trans
      (Cert.Routed.outAt_eq m _ _ _ (fun s => ⟨(hag s).1, (hag s).2.2.1, (hag s).2.2.2⟩) c)), h.1.args c⟩)
      (Cert.KernelIdeal.Exchange.run_arrays (F := Ideal) m ρ),
    (θ_run _ _ _).mono (fun _ h => ⟨(h 0).1.trans (Cert.ReferenceIdeal.Read.val_main_v53_eq m' 0), (h 0).2⟩)
      (Cert.ReferenceIdeal.Value.run (F := Ideal) m' ρ')⟩

end Cert.Proof

end
-- ==== Proof.lean ====
/-
# The certificate

The five claims put together: the kernel, its idealization and the reference run and leave their arguments and counters
as they should; the idealization changes nothing; and at the extended reals the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
